-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x768 : Shape := ⟨2, ![16384, 768]⟩
abbrev S_ : Shape := ⟨0, ![]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S32x512 : Shape := ⟨2, ![32, 512]⟩
abbrev S256x768 : Shape := ⟨2, ![256, 768]⟩
abbrev S768 : Shape := ⟨1, ![768]⟩
abbrev S8192x32 : Shape := ⟨2, ![8192, 32]⟩
abbrev S1x512 : Shape := ⟨2, ![1, 512]⟩
abbrev S1x256 : Shape := ⟨2, ![1, 256]⟩
abbrev S1x32 : Shape := ⟨2, ![1, 32]⟩
abbrev S1x768 : Shape := ⟨2, ![1, 768]⟩
abbrev S32x8192 : Shape := ⟨2, ![32, 8192]⟩
abbrev S64x1x128 : Shape := ⟨3, ![64, 1, 128]⟩
abbrev S1x1x128 : Shape := ⟨3, ![1, 1, 128]⟩
abbrev S256x512 : Shape := ⟨2, ![256, 512]⟩
abbrev S256x256 : Shape := ⟨2, ![256, 256]⟩
abbrev S8192 : Shape := ⟨1, ![8192]⟩
abbrev S1x8192 : Shape := ⟨2, ![1, 8192]⟩
abbrev S256x8192 : Shape := ⟨2, ![256, 8192]⟩
abbrev S256x1 : Shape := ⟨2, ![256, 1]⟩
abbrev S1 : Shape := ⟨1, ![1]⟩
abbrev S1x1 : Shape := ⟨2, ![1, 1]⟩
abbrev S64x1x1 : Shape := ⟨3, ![64, 1, 1]⟩
abbrev S64 : Shape := ⟨1, ![64]⟩

abbrev nBuf : Space → Nat
  | .hbm => 33
  | .vmem => 19
  | .smem => 0
  | _ => 0

abbrev bufTy : (tb : Table) → Fin (tcTables nBuf tb) → BufTy
  | .hbm, ⟨0, _⟩ => ⟨S16384x768, .f32⟩
  | .hbm, ⟨1, _⟩ => ⟨S_, .f32⟩
  | .hbm, ⟨2, _⟩ => ⟨S768x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x32, .f32⟩
  | .hbm, ⟨7, _⟩ => ⟨S32, .f32⟩
  | .hbm, ⟨8, _⟩ => ⟨S32x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x768, .f32⟩
  | .hbm, ⟨13, _⟩ => ⟨S768, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S1x512, .f32⟩
  | .hbm, ⟨18, _⟩ => ⟨S1x256, .f32⟩
  | .hbm, ⟨19, _⟩ => ⟨S1x32, .f32⟩
  | .hbm, ⟨20, _⟩ => ⟨S1x512, .f32⟩
  | .hbm, ⟨21, _⟩ => ⟨S1x256, .f32⟩
  | .hbm, ⟨22, _⟩ => ⟨S1x768, .f32⟩
  | .hbm, ⟨23, _⟩ => ⟨S32x8192, .f32⟩
  | .hbm, ⟨24, _⟩ => ⟨S32x8192, .f32⟩
  | .hbm, ⟨25, _⟩ => ⟨S32x8192, .f32⟩
  | .hbm, ⟨26, _⟩ => ⟨S64x1x128, .f32⟩
  | .hbm, ⟨27, _⟩ => ⟨S64x1x1, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S256x768, .f32⟩
  | .local _ .vmem, ⟨1, _⟩ => ⟨S256x768, .f32⟩
  | .local _ .vmem, ⟨2, _⟩ => ⟨S768x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x32, .f32⟩
  | .local _ .vmem, ⟨7, _⟩ => ⟨S1x32, .f32⟩
  | .local _ .vmem, ⟨8, _⟩ => ⟨S32x512, .f32⟩
  | .local _ .vmem, ⟨9, _⟩ => ⟨S1x512, .f32⟩
  | .local _ .vmem, ⟨10, _⟩ => ⟨S512x256, .f32⟩
  | .local _ .vmem, ⟨11, _⟩ => ⟨S1x256, .f32⟩
  | .local _ .vmem, ⟨12, _⟩ => ⟨S256x768, .f32⟩
  | .local _ .vmem, ⟨13, _⟩ => ⟨S1x768, .f32⟩
  | .local _ .vmem, ⟨14, _⟩ => ⟨S32x8192, .f32⟩
  | .local _ .vmem, ⟨15, _⟩ => ⟨S32x8192, .f32⟩
  | .local _ .vmem, ⟨16, _⟩ => ⟨S32x8192, .f32⟩
  | .local _ .vmem, ⟨17, _⟩ => ⟨S1x1x128, .f32⟩
  | .local _ .vmem, ⟨18, _⟩ => ⟨S1x1x128, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x8192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x8192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x768 : Shape := ⟨2, ![16384, 768]⟩
abbrev S_ : Shape := ⟨0, ![]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S32x512 : Shape := ⟨2, ![32, 512]⟩
abbrev S256x768 : Shape := ⟨2, ![256, 768]⟩
abbrev S768 : Shape := ⟨1, ![768]⟩
abbrev S8192x32 : Shape := ⟨2, ![8192, 32]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x32 : Shape := ⟨2, ![16384, 32]⟩
abbrev S1x32 : Shape := ⟨2, ![1, 32]⟩
abbrev S16384 : Shape := ⟨1, ![16384]⟩
abbrev S16384x1 : Shape := ⟨2, ![16384, 1]⟩
abbrev S32x8192 : Shape := ⟨2, ![32, 8192]⟩
abbrev S16384x8192 : Shape := ⟨2, ![16384, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S16384x32x1 : Shape := ⟨3, ![16384, 32, 1]⟩
abbrev S16384x32x3 : Shape := ⟨3, ![16384, 32, 3]⟩
abbrev S1x768 : Shape := ⟨2, ![1, 768]⟩

abbrev nBuf : Space → Nat
  | .hbm => 222
  | .vmem => 0
  | .smem => 0
  | _ => 0

abbrev hbmTy0_0 (i : Nat) : BufTy := match i % 128 with
  | 0 => ⟨S16384x768, .f32⟩
  | 1 => ⟨S_, .f32⟩
  | 2 => ⟨S768x512, .f32⟩
  | 3 => ⟨S512, .f32⟩
  | 4 => ⟨S512x256, .f32⟩
  | 5 => ⟨S256, .f32⟩
  | 6 => ⟨S256x32, .f32⟩
  | 7 => ⟨S32, .f32⟩
  | 8 => ⟨S32x512, .f32⟩
  | 9 => ⟨S512, .f32⟩
  | 10 => ⟨S512x256, .f32⟩
  | 11 => ⟨S256, .f32⟩
  | 12 => ⟨S256x768, .f32⟩
  | 13 => ⟨S768, .f32⟩
  | 14 => ⟨S8192x32, .f32⟩
  | 15 => ⟨S8192x32, .f32⟩
  | 16 => ⟨S8192x32, .f32⟩
  | 17 => ⟨S16384x512, .f32⟩
  | 18 => ⟨S1x512, .f32⟩
  | 19 => ⟨S16384x512, .f32⟩
  | 20 => ⟨S16384x512, .f32⟩
  | 21 => ⟨S_, .f32⟩
  | 22 => ⟨S16384x512, .f32⟩
  | 23 => ⟨S16384x512, .f32⟩
  | 24 => ⟨S16384x256, .f32⟩
  | 25 => ⟨S1x256, .f32⟩
  | 26 => ⟨S16384x256, .f32⟩
  | 27 => ⟨S16384x256, .f32⟩
  | 28 => ⟨S_, .f32⟩
  | 29 => ⟨S16384x256, .f32⟩
  | 30 => ⟨S16384x256, .f32⟩
  | 31 => ⟨S16384x32, .f32⟩
  | 32 => ⟨S1x32, .f32⟩
  | 33 => ⟨S16384x32, .f32⟩
  | 34 => ⟨S16384x32, .f32⟩
  | 35 => ⟨S16384x32, .f32⟩
  | 36 => ⟨S_, .f32⟩
  | 37 => ⟨S16384, .f32⟩
  | 38 => ⟨S16384x1, .f32⟩
  | 39 => ⟨S32x8192, .f32⟩
  | 40 => ⟨S16384x8192, .f32⟩
  | 41 => ⟨S_, .f32⟩
  | 42 => ⟨S16384x8192, .f32⟩
  | 43 => ⟨S16384x8192, .f32⟩
  | 44 => ⟨S16384x8192, .f32⟩
  | 45 => ⟨S16384x8192, .f32⟩
  | 46 => ⟨S8192x32, .f32⟩
  | 47 => ⟨S_, .f32⟩
  | 48 => ⟨S8192, .f32⟩
  | 49 => ⟨S1x8192, .f32⟩
  | 50 => ⟨S16384x8192, .f32⟩
  | 51 => ⟨S16384x8192, .f32⟩
  | 52 => ⟨S16384x8192, .i32⟩
  | 53 => ⟨S_, .f32⟩
  | 54 => ⟨S_, .i32⟩
  | 55 => ⟨S16384, .f32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S1, .i32⟩
  | 66 => ⟨S_, .i32⟩
  | 67 => ⟨S16384x1, .i32⟩
  | 68 => ⟨S16384x1, .i1⟩
  | 69 => ⟨S1x1, .i32⟩
  | 70 => ⟨S16384x1, .i32⟩
  | 71 => ⟨S16384x1, .i1⟩
  | 72 => ⟨S16384x1, .i1⟩
  | 73 => ⟨S_, .i1⟩
  | 74 => ⟨S16384, .i1⟩
  | 75 => ⟨S16384x32, .f32⟩
  | 76 => ⟨S16384x32, .i1⟩
  | 77 => ⟨S_, .f32⟩
  | 78 => ⟨S16384x32, .f32⟩
  | 79 => ⟨S16384x32, .f32⟩
  | 80 => ⟨S16384x32, .f32⟩
  | 81 => ⟨S16384x32, .f32⟩
  | 82 => ⟨S_, .f32⟩
  | 83 => ⟨S16384, .f32⟩
  | 84 => ⟨S16384x1, .f32⟩
  | 85 => ⟨S32x8192, .f32⟩
  | 86 => ⟨S16384x8192, .f32⟩
  | 87 => ⟨S_, .f32⟩
  | 88 => ⟨S16384x8192, .f32⟩
  | 89 => ⟨S16384x8192, .f32⟩
  | 90 => ⟨S16384x8192, .f32⟩
  | 91 => ⟨S16384x8192, .f32⟩
  | 92 => ⟨S8192x32, .f32⟩
  | 93 => ⟨S_, .f32⟩
  | 94 => ⟨S8192, .f32⟩
  | 95 => ⟨S1x8192, .f32⟩
  | 96 => ⟨S16384x8192, .f32⟩
  | 97 => ⟨S16384x8192, .f32⟩
  | 98 => ⟨S16384x8192, .i32⟩
  | 99 => ⟨S_, .f32⟩
  | 100 => ⟨S_, .i32⟩
  | 101 => ⟨S16384, .f32⟩
  | 102 => ⟨S16384, .i32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S16384x1, .i32⟩
  | 111 => ⟨S1, .i32⟩
  | 112 => ⟨S_, .i32⟩
  | 113 => ⟨S16384x1, .i32⟩
  | 114 => ⟨S16384x1, .i1⟩
  | 115 => ⟨S1x1, .i32⟩
  | 116 => ⟨S16384x1, .i32⟩
  | 117 => ⟨S16384x1, .i1⟩
  | 118 => ⟨S16384x1, .i1⟩
  | 119 => ⟨S_, .i1⟩
  | 120 => ⟨S16384, .i1⟩
  | 121 => ⟨S16384x32, .f32⟩
  | 122 => ⟨S16384x32, .i1⟩
  | 123 => ⟨S_, .f32⟩
  | 124 => ⟨S16384x32, .f32⟩
  | 125 => ⟨S16384x32, .f32⟩
  | 126 => ⟨S16384x32, .f32⟩
  | 127 => ⟨S16384x32, .f32⟩
  | _ => ⟨S16384x768, .f32⟩

abbrev hbmTy0_1 (i : Nat) : BufTy := match i % 128 with
  | 0 => ⟨S_, .f32⟩
  | 1 => ⟨S16384, .f32⟩
  | 2 => ⟨S16384x1, .f32⟩
  | 3 => ⟨S32x8192, .f32⟩
  | 4 => ⟨S16384x8192, .f32⟩
  | 5 => ⟨S_, .f32⟩
  | 6 => ⟨S16384x8192, .f32⟩
  | 7 => ⟨S16384x8192, .f32⟩
  | 8 => ⟨S16384x8192, .f32⟩
  | 9 => ⟨S16384x8192, .f32⟩
  | 10 => ⟨S8192x32, .f32⟩
  | 11 => ⟨S_, .f32⟩
  | 12 => ⟨S8192, .f32⟩
  | 13 => ⟨S1x8192, .f32⟩
  | 14 => ⟨S16384x8192, .f32⟩
  | 15 => ⟨S16384x8192, .f32⟩
  | 16 => ⟨S16384x8192, .i32⟩
  | 17 => ⟨S_, .f32⟩
  | 18 => ⟨S_, .i32⟩
  | 19 => ⟨S16384, .f32⟩
  | 20 => ⟨S16384, .i32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S1, .i32⟩
  | 30 => ⟨S_, .i32⟩
  | 31 => ⟨S16384x1, .i32⟩
  | 32 => ⟨S16384x1, .i1⟩
  | 33 => ⟨S1x1, .i32⟩
  | 34 => ⟨S16384x1, .i32⟩
  | 35 => ⟨S16384x1, .i1⟩
  | 36 => ⟨S16384x1, .i1⟩
  | 37 => ⟨S_, .i1⟩
  | 38 => ⟨S16384, .i1⟩
  | 39 => ⟨S16384x32, .f32⟩
  | 40 => ⟨S16384x32, .i1⟩
  | 41 => ⟨S_, .f32⟩
  | 42 => ⟨S16384x32, .f32⟩
  | 43 => ⟨S16384x32, .f32⟩
  | 44 => ⟨S16384x32, .f32⟩
  | 45 => ⟨S16384x32x1, .f32⟩
  | 46 => ⟨S16384x32x1, .f32⟩
  | 47 => ⟨S16384x32x1, .f32⟩
  | 48 => ⟨S16384x32x3, .f32⟩
  | 49 => ⟨S16384x32x1, .f32⟩
  | 50 => ⟨S16384x32x1, .f32⟩
  | 51 => ⟨S16384x32x1, .f32⟩
  | 52 => ⟨S16384x32x3, .f32⟩
  | 53 => ⟨S_, .f32⟩
  | 54 => ⟨S16384x32, .f32⟩
  | 55 => ⟨S16384x512, .f32⟩
  | 56 => ⟨S1x512, .f32⟩
  | 57 => ⟨S16384x512, .f32⟩
  | 58 => ⟨S16384x512, .f32⟩
  | 59 => ⟨S_, .f32⟩
  | 60 => ⟨S16384x512, .f32⟩
  | 61 => ⟨S16384x512, .f32⟩
  | 62 => ⟨S16384x256, .f32⟩
  | 63 => ⟨S1x256, .f32⟩
  | 64 => ⟨S16384x256, .f32⟩
  | 65 => ⟨S16384x256, .f32⟩
  | 66 => ⟨S_, .f32⟩
  | 67 => ⟨S16384x256, .f32⟩
  | 68 => ⟨S16384x256, .f32⟩
  | 69 => ⟨S16384x768, .f32⟩
  | 70 => ⟨S1x768, .f32⟩
  | 71 => ⟨S16384x768, .f32⟩
  | 72 => ⟨S16384x768, .f32⟩
  | 73 => ⟨S16384x768, .f32⟩
  | 74 => ⟨S16384x768, .f32⟩
  | 75 => ⟨S_, .f32⟩
  | 76 => ⟨S16384, .f32⟩
  | 77 => ⟨S16384x32x3, .f32⟩
  | 78 => ⟨S16384x32x3, .f32⟩
  | 79 => ⟨S_, .f32⟩
  | 80 => ⟨S16384, .f32⟩
  | 81 => ⟨S16384x32x3, .f32⟩
  | 82 => ⟨S16384x32x3, .f32⟩
  | 83 => ⟨S_, .f32⟩
  | 84 => ⟨S16384, .f32⟩
  | 85 => ⟨S_, .f32⟩
  | 86 => ⟨S16384, .f32⟩
  | 87 => ⟨S16384, .f32⟩
  | 88 => ⟨S16384, .f32⟩
  | 89 => ⟨S16384, .f32⟩
  | 90 => ⟨S_, .f32⟩
  | 91 => ⟨S_, .f32⟩
  | 92 => ⟨S_, .f32⟩
  | 93 => ⟨S_, .f32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call2_v0 : Ref sig .tc := ⟨.hbm, 52, rfl⟩
abbrev main_call2_cst : Ref sig .tc := ⟨.hbm, 53, rfl⟩
abbrev main_call2_c : Ref sig .tc := ⟨.hbm, 54, rfl⟩
abbrev main_call2_v1_0 : Ref sig .tc := ⟨.hbm, 55, rfl⟩
abbrev main_v28 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_c_1 : Ref sig .tc := ⟨.hbm, 65, rfl⟩
abbrev main_call3_c_2 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_3 : Ref sig .tc := ⟨.hbm, 73, rfl⟩
abbrev main_call3_v12 : Ref sig .tc := ⟨.hbm, 74, rfl⟩
abbrev main_call3_v13 : Ref sig .tc := ⟨.hbm, 75, rfl⟩
abbrev main_call3_v14 : Ref sig .tc := ⟨.hbm, 76, rfl⟩
abbrev main_call3_cst : Ref sig .tc := ⟨.hbm, 77, rfl⟩
abbrev main_call3_v15 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_2 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_3 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_4 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_call4_v0 : Ref sig .tc := ⟨.hbm, 98, rfl⟩
abbrev main_call4_cst : Ref sig .tc := ⟨.hbm, 99, rfl⟩
abbrev main_call4_c : Ref sig .tc := ⟨.hbm, 100, rfl⟩
abbrev main_call4_v1_0 : Ref sig .tc := ⟨.hbm, 101, rfl⟩
abbrev main_v45 : Ref sig .tc := ⟨.hbm, 102, rfl⟩
abbrev main_call5_c : Ref sig .tc := ⟨.hbm, 103, rfl⟩
abbrev main_call5_v0 : Ref sig .tc := ⟨.hbm, 104, rfl⟩
abbrev main_call5_v1 : Ref sig .tc := ⟨.hbm, 105, rfl⟩
abbrev main_call5_c_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_c_1 : Ref sig .tc := ⟨.hbm, 111, rfl⟩
abbrev main_call5_c_2 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_3 : Ref sig .tc := ⟨.hbm, 119, rfl⟩
abbrev main_call5_v12 : Ref sig .tc := ⟨.hbm, 120, rfl⟩
abbrev main_call5_v13 : Ref sig .tc := ⟨.hbm, 121, rfl⟩
abbrev main_call5_v14 : Ref sig .tc := ⟨.hbm, 122, rfl⟩
abbrev main_call5_cst : Ref sig .tc := ⟨.hbm, 123, rfl⟩
abbrev main_call5_v15 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_cst_5 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_6 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_cst_7 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_call6_v0 : Ref sig .tc := ⟨.hbm, 144, rfl⟩
abbrev main_call6_cst : Ref sig .tc := ⟨.hbm, 145, rfl⟩
abbrev main_call6_c : Ref sig .tc := ⟨.hbm, 146, rfl⟩
abbrev main_call6_v1_0 : Ref sig .tc := ⟨.hbm, 147, rfl⟩
abbrev main_v62 : Ref sig .tc := ⟨.hbm, 148, rfl⟩
abbrev main_call7_c : Ref sig .tc := ⟨.hbm, 149, rfl⟩
abbrev main_call7_v0 : Ref sig .tc := ⟨.hbm, 150, rfl⟩
abbrev main_call7_v1 : Ref sig .tc := ⟨.hbm, 151, rfl⟩
abbrev main_call7_c_0 : Ref sig .tc := ⟨.hbm, 152, rfl⟩
abbrev main_call7_v2 : Ref sig .tc := ⟨.hbm, 153, rfl⟩
abbrev main_call7_v3 : Ref sig .tc := ⟨.hbm, 154, rfl⟩
abbrev main_call7_v4 : Ref sig .tc := ⟨.hbm, 155, rfl⟩
abbrev main_call7_v5 : Ref sig .tc := ⟨.hbm, 156, rfl⟩
abbrev main_call7_c_1 : Ref sig .tc := ⟨.hbm, 157, rfl⟩
abbrev main_call7_c_2 : Ref sig .tc := ⟨.hbm, 158, rfl⟩
abbrev main_call7_v6 : Ref sig .tc := ⟨.hbm, 159, rfl⟩
abbrev main_call7_v7 : Ref sig .tc := ⟨.hbm, 160, rfl⟩
abbrev main_call7_v8 : Ref sig .tc := ⟨.hbm, 161, rfl⟩
abbrev main_call7_v9 : Ref sig .tc := ⟨.hbm, 162, rfl⟩
abbrev main_call7_v10 : Ref sig .tc := ⟨.hbm, 163, rfl⟩
abbrev main_call7_v11 : Ref sig .tc := ⟨.hbm, 164, rfl⟩
abbrev main_call7_c_3 : Ref sig .tc := ⟨.hbm, 165, rfl⟩
abbrev main_call7_v12 : Ref sig .tc := ⟨.hbm, 166, rfl⟩
abbrev main_call7_v13 : Ref sig .tc := ⟨.hbm, 167, rfl⟩
abbrev main_call7_v14 : Ref sig .tc := ⟨.hbm, 168, rfl⟩
abbrev main_call7_cst : Ref sig .tc := ⟨.hbm, 169, rfl⟩
abbrev main_call7_v15 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_cst_8 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_call8_cst : Ref sig .tc := ⟨.hbm, 187, rfl⟩
abbrev main_call8_v0 : Ref sig .tc := ⟨.hbm, 188, rfl⟩
abbrev main_v78 : Ref sig .tc := ⟨.hbm, 189, rfl⟩
abbrev main_v79 : Ref sig .tc := ⟨.hbm, 190, rfl⟩
abbrev main_v80 : Ref sig .tc := ⟨.hbm, 191, rfl⟩
abbrev main_v81 : Ref sig .tc := ⟨.hbm, 192, rfl⟩
abbrev main_v82 : Ref sig .tc := ⟨.hbm, 193, rfl⟩
abbrev main_call9_cst : Ref sig .tc := ⟨.hbm, 194, rfl⟩
abbrev main_call9_v0 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_cst_9 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_cst_10 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_cst_11 : Ref sig .tc := ⟨.hbm, 211, rfl⟩
abbrev main_v96 : Ref sig .tc := ⟨.hbm, 212, rfl⟩
abbrev main_cst_12 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_cst_13 : Ref sig .tc := ⟨.hbm, 218, rfl⟩
abbrev main_v101 : Ref sig .tc := ⟨.hbm, 219, rfl⟩
abbrev main_cst_14 : Ref sig .tc := ⟨.hbm, 220, rfl⟩
abbrev main_v102 : Ref sig .tc := ⟨.hbm, 221, rfl⟩

abbrev nD : Nat := 1
abbrev τ : Topo := Topo.v7x

variable {F : FTy → Type} [FloatOps F]
-- ==== Proof.RowMath.lean ====
module

public import Mathlib.Data.EReal.Inv
public import Mathlib.Algebra.BigOperators.Fin
public import Mathlib.Algebra.Order.BigOperators.Group.Finset

/-! The loss of one row as a formula over the extended reals, in the kernel's and in the reference's arrangement,
and the proof that the two agree for every input, infinite entries included. -/

@[expose] public section

noncomputable section

namespace Cert.RowMath

open Finset

/-- One dense layer applied to a row. -/
def affine {n m : ℕ} (w : Fin n → Fin m → EReal) (b : Fin m → EReal) (v : Fin n → EReal) (j : Fin m) : EReal :=
  (∑ i, v i * w i j) + b j

/-- The rectifier on a row. -/
def relu {n : ℕ} (v : Fin n → EReal) (i : Fin n) : EReal := max (v i) 0

/-- Three dense layers with a rectifier between two of them. -/
def mlp {n0 n1 n2 n3 : ℕ} (w0 : Fin n0 → Fin n1 → EReal) (b0 : Fin n1 → EReal) (w1 : Fin n1 → Fin n2 → EReal)
    (b1 : Fin n2 → EReal) (w2 : Fin n2 → Fin n3 → EReal) (b2 : Fin n3 → EReal) (v : Fin n0 → EReal) : Fin n3 → EReal :=
  affine w2 b2 (relu (affine w1 b1 (relu (affine w0 b0 v))))

/-- The sum of a row's squares. -/
def normSq {n : ℕ} (v : Fin n → EReal) : EReal := ∑ k, v k * v k

/-- The difference of two rows. -/
def diff {n : ℕ} (v w : Fin n → EReal) (k : Fin n) : EReal := v k - w k

/-- The kernel's distances: the residual's own square is left out. -/
def distK {K d : ℕ} (cb : Fin K → Fin d → EReal) (r : Fin d → EReal) (j : Fin K) : EReal :=
  normSq (cb j) - 2 * ∑ k, r k * cb j k

/-- The reference's distances. -/
def distR {K d : ℕ} (cb : Fin K → Fin d → EReal) (r : Fin d → EReal) (j : Fin K) : EReal :=
  (normSq r - 2 * ∑ k, r k * cb j k) + normSq (cb j)

/-- `i` is the first index at which `f` is smallest. -/
def IsFirstMin {K : ℕ} (f : Fin K → EReal) (i : Fin K) : Prop :=
  (∀ j, f i ≤ f j) ∧ ∀ j, f j ≤ f i → i ≤ j

/-- A first smallest place is unique. -/
theorem IsFirstMin.unique {K : ℕ} {f : Fin K → EReal} {i j : Fin K} (hi : IsFirstMin f i) (hj : IsFirstMin f j) : i = j :=
  le_antisymm (hi.2 j (hj.1 i)) (hj.2 i (hi.1 j))

/-- A first smallest place exists. -/
theorem exists_isFirstMin {K : ℕ} [NeZero K] (f : Fin K → EReal) : ∃ i, IsFirstMin f i := by
  obtain ⟨a, -, ha⟩ := Finset.exists_min_image univ f ⟨(0 : Fin K), mem_univ _⟩
  obtain ⟨i, hi, hmin⟩ := Finset.exists_min_image (univ.filter fun j => f j ≤ f a) id ⟨a, by simp⟩
  have hi' : f i ≤ f a := (mem_filter.mp hi).2
  exact ⟨i, fun j => hi'.trans (ha j (mem_univ _)), fun j hj => hmin j (mem_filter.mpr ⟨mem_univ _, hj.trans hi'⟩)⟩

/-- The first index at which `f` is smallest. -/
def firstMin {K : ℕ} [NeZero K] (f : Fin K → EReal) : Fin K := (exists_isFirstMin f).choose

/-- `firstMin` is a first smallest place. -/
theorem firstMin_spec {K : ℕ} [NeZero K] (f : Fin K → EReal) : IsFirstMin f (firstMin f) := (exists_isFirstMin f).choose_spec

/-- A first smallest place is `firstMin`. -/
theorem IsFirstMin.eq_firstMin {K : ℕ} [NeZero K] {f : Fin K → EReal} {i : Fin K} (h : IsFirstMin f i) : i = firstMin f :=
  h.unique (firstMin_spec f)

/-- The smallest value is the value at the first smallest index. -/
theorem fold_min_eq {K : ℕ} [NeZero K] (f : Fin K → EReal) : univ.fold min ⊤ f = f (firstMin f) :=
  le_antisymm (Finset.fold_min_le _ |>.mpr (Or.inr ⟨_, mem_univ _, le_rfl⟩))
    (Finset.le_fold_min _ |>.mpr ⟨le_top, fun j _ => (firstMin_spec f).1 j⟩)

/-- Two functions that order the indices alike have the same first smallest index. -/
theorem firstMin_congr {K : ℕ} [NeZero K] {f g : Fin K → EReal} (h : ∀ a b, f a ≤ f b ↔ g a ≤ g b) : firstMin f = firstMin g :=
  IsFirstMin.eq_firstMin ⟨fun j => (h _ _).mp ((firstMin_spec f).1 j), fun j hj => (firstMin_spec f).2 j ((h _ _).mpr hj)⟩

/-- Every entry of the row is a real number. -/
def AllReal {n : ℕ} (v : Fin n → EReal) : Prop := ∀ k, ∃ x : ℝ, v k = x

/-- An extended real is a real or one of the two infinities. -/
theorem real_or (a : EReal) : (∃ x : ℝ, a = x) ∨ a = ⊤ ∨ a = ⊥ := by
  induction a with
  | bot => simp
  | top => simp
  | coe x => exact Or.inl ⟨x, rfl⟩

/-- A square is not negative. -/
theorem mul_self_nonneg' (a : EReal) : 0 ≤ a * a := by
  induction a with
  | bot => simp
  | top => simp
  | coe x => exact_mod_cast mul_self_nonneg x

/-- A sum of squares is not negative. -/
theorem normSq_nonneg {n : ℕ} (v : Fin n → EReal) : 0 ≤ normSq v := Finset.sum_nonneg fun k _ => mul_self_nonneg' (v k)

/-- A row with an infinite entry has infinite square. -/
theorem normSq_eq_top {n : ℕ} {v : Fin n → EReal} (h : ¬ AllReal v) : normSq v = ⊤ := by
  obtain ⟨k, hk⟩ := not_forall.mp h
  have hs : v k * v k = ⊤ := by
    rcases real_or (v k) with h | h | h
    · exact absurd h hk
    · rw [h]; rfl
    · rw [h]; rfl
  exact top_le_iff.mp (hs ▸ Finset.single_le_sum (f := fun k => v k * v k) (fun k _ => mul_self_nonneg' (v k)) (mem_univ k))

/-- If a difference is real, both its terms are. -/
theorem real_of_sub {a b : EReal} {x : ℝ} (h : a - b = x) : (∃ y : ℝ, a = y) ∧ ∃ z : ℝ, b = z := by
  induction a <;> induction b <;> simp_all
  all_goals first | exact ⟨_, rfl⟩ | skip

/-- A real difference has real operands. -/
theorem AllReal.of_diff {n : ℕ} {v w : Fin n → EReal} (h : AllReal (diff v w)) : AllReal v ∧ AllReal w :=
  ⟨fun k => (real_of_sub (h k).choose_spec).1, fun k => (real_of_sub (h k).choose_spec).2⟩

/-- A real vector has a real sum of squares. -/
theorem AllReal.normSq {n : ℕ} {v : Fin n → EReal} (h : AllReal v) : ∃ x : ℝ, normSq v = x := by
  choose f hf using h
  refine ⟨∑ k, f k * f k, ?_⟩
  simp only [RowMath.normSq, hf]
  induction (univ : Finset (Fin n)) using Finset.induction_on with
  | empty => simp
  | insert a s ha ih => rw [sum_insert ha, sum_insert ha, ih, EReal.coe_add, EReal.coe_mul]

/-- Adding a real number on the left keeps the order both ways. -/
theorem real_add_le_iff (x : ℝ) (a b : EReal) : (x : EReal) + a ≤ x + b ↔ a ≤ b := by
  refine ⟨fun h => ?_, fun h => add_le_add le_rfl h⟩
  have h' := add_le_add (le_refl ((-x : ℝ) : EReal)) h
  have e : ((-x : ℝ) : EReal) + x = 0 := by rw [← EReal.coe_add]; simp
  rwa [← add_assoc, ← add_assoc, e, zero_add, zero_add] at h'

/-- The codebook row the distances choose. -/
def nearest {K d : ℕ} [NeZero K] (dist : (Fin K → Fin d → EReal) → (Fin d → EReal) → Fin K → EReal)
    (cb : Fin K → Fin d → EReal) (r : Fin d → EReal) : Fin d → EReal :=
  cb (firstMin (dist cb r))

/-- For a real residual the kernel's and the reference's distances choose the same codebook row. -/
theorem nearest_eq {K d : ℕ} [NeZero K] (cb : Fin K → Fin d → EReal) {r : Fin d → EReal} (h : AllReal r) :
    nearest distK cb r = nearest distR cb r := by
  obtain ⟨x, hx⟩ := h.normSq
  have e : ∀ j, distR cb r j = x + distK cb r j := fun j => by
    simp only [distR, distK, hx, sub_eq_add_neg]
    rw [add_assoc, add_comm (-_) _]
  unfold nearest
  rw [firstMin_congr (g := distR cb r) fun a b => by rw [e a, e b, real_add_le_iff]]

section Chain

variable {d : ℕ}

/-- The residual after `l` levels; level `l` subtracts the row that `emb l` chooses. -/
def res (emb : ℕ → (Fin d → EReal) → Fin d → EReal) (r0 : Fin d → EReal) : ℕ → Fin d → EReal
  | 0 => r0
  | l + 1 => diff (res emb r0 l) (emb l (res emb r0 l))

/-- The sum over the levels of the squared residuals after each. -/
def quant (emb : ℕ → (Fin d → EReal) → Fin d → EReal) (r0 : Fin d → EReal) (L : ℕ) : EReal :=
  ∑ l ∈ range L, normSq (res emb r0 (l + 1))

/-- The quantisation loss is not negative. -/
theorem quant_nonneg (emb : ℕ → (Fin d → EReal) → Fin d → EReal) (r0 : Fin d → EReal) (L : ℕ) : 0 ≤ quant emb r0 L :=
  Finset.sum_nonneg fun _ _ => normSq_nonneg _

/-- The quantisation loss is infinite as soon as one residual is not real. -/
theorem quant_eq_top {emb : ℕ → (Fin d → EReal) → Fin d → EReal} {r0 : Fin d → EReal} {L : ℕ}
    (h : ¬ ∀ l < L, AllReal (res emb r0 (l + 1))) : quant emb r0 L = ⊤ := by
  simp only [not_forall] at h
  obtain ⟨l, hl, hf⟩ := h
  exact top_le_iff.mp (normSq_eq_top hf ▸ Finset.single_le_sum (f := fun l => normSq (res emb r0 (l + 1)))
    (fun _ _ => normSq_nonneg _) (mem_range.mpr hl))

/-- While the residuals are real, so is the row a level subtracts. -/
theorem res_fin {emb : ℕ → (Fin d → EReal) → Fin d → EReal} {r0 : Fin d → EReal} {L : ℕ}
    (h : ∀ l < L, AllReal (res emb r0 (l + 1))) (l : ℕ) (hl : l < L) : AllReal (res emb r0 l) ∧ AllReal (emb l (res emb r0 l)) :=
  (h l hl).of_diff

/-- Two ways to choose embeddings that agree on real residuals leave the same residuals, as long as these are real. -/
theorem res_congr {e1 e2 : ℕ → (Fin d → EReal) → Fin d → EReal} {r0 : Fin d → EReal} {L : ℕ}
    (he : ∀ l r, AllReal r → e1 l r = e2 l r) (h : ∀ l < L, AllReal (res e1 r0 (l + 1))) :
    ∀ l ≤ L, res e1 r0 l = res e2 r0 l
  | 0, _ => rfl
  | l + 1, hl => by
    have ih := res_congr he h l (by omega)
    simp only [res]
    rw [← ih, he l _ (res_fin h l hl).1]

/-- While the residuals are real, what the levels subtracted is the sum of the embeddings. -/
theorem res_telescope {emb : ℕ → (Fin d → EReal) → Fin d → EReal} {r0 : Fin d → EReal} {L : ℕ}
    (h : ∀ l < L, AllReal (res emb r0 (l + 1))) (h0 : AllReal r0) (k : Fin d) :
    ∀ l ≤ L, r0 k - res emb r0 l k = ∑ i ∈ range l, emb i (res emb r0 i) k
  | 0, _ => by
    obtain ⟨x, hx⟩ := h0 k
    simp only [res, hx, range_zero, sum_empty, ← EReal.coe_sub, sub_self, EReal.coe_zero]
  | l + 1, hl => by
    have ih := res_telescope h h0 k l (by omega)
    obtain ⟨x, hx⟩ := h0 k
    obtain ⟨y, hy⟩ := (res_fin h l hl).1 k
    obtain ⟨z, hz⟩ := (res_fin h l hl).2 k
    rw [sum_range_succ, ← ih]
    simp only [res, diff, hx, hy, hz, ← EReal.coe_sub, ← EReal.coe_add]
    congr 1
    ring

/-- One row's loss agrees in the two arrangements: the kernel decodes what the levels subtracted and weighs the
    quantisation loss by `w`; the reference decodes the sum of the embeddings and adds a `v`-th of the quantisation
    loss to the loss itself. -/
theorem row_loss_eq {e1 e2 : ℕ → (Fin d → EReal) → Fin d → EReal} {r0 : Fin d → EReal} (L : ℕ) (hL : 0 < L)
    (he : ∀ l r, AllReal r → e1 l r = e2 l r) (recon : (Fin d → EReal) → EReal) (hrec : ∀ e, 0 ≤ recon e)
    (w v : ℝ) (hv : 0 < v) (hw : w = 1 + v) :
    recon (fun k => r0 k - res e1 r0 L k) + w * quant e1 r0 L =
      recon (fun k => ∑ i ∈ range L, e2 i (res e2 r0 i) k) + (quant e2 r0 L + v * quant e2 r0 L) := by
  have hdist : ∀ q : EReal, 0 ≤ q → q + v * q = w * q := fun q _ => by
    rw [hw, EReal.coe_add, EReal.right_distrib_of_nonneg (by exact_mod_cast zero_le_one) (by exact_mod_cast hv.le),
      EReal.coe_one, one_mul]
  rw [hdist _ (quant_nonneg _ _ _)]
  have htop : ∀ e : Fin d → EReal, recon e + (w : EReal) * ⊤ = ⊤ := fun e => by
    rw [EReal.coe_mul_top_of_pos (by linarith)]
    exact EReal.add_top_of_ne_bot fun hb => absurd (hrec e) (by simp [hb])
  by_cases h : ∀ l < L, AllReal (res e1 r0 (l + 1))
  · have hc := res_congr he h
    have hq : quant e1 r0 L = quant e2 r0 L := Finset.sum_congr rfl fun l hl => by
      rw [hc (l + 1) (mem_range.mp hl)]
    have hr : (fun k => r0 k - res e1 r0 L k) = fun k => ∑ i ∈ range L, e2 i (res e2 r0 i) k := funext fun k => by
      rw [res_telescope h (res_fin h 0 hL).1 k L le_rfl]
      refine Finset.sum_congr rfl fun l hl => ?_
      have hl' := mem_range.mp hl
      rw [← hc l hl'.le, he l _ (res_fin h l hl').1]
    rw [hq, hr]
  · have h2 : ¬ ∀ l < L, AllReal (res e2 r0 (l + 1)) := fun h2 =>
      h fun l hl => res_congr (fun l r hr => (he l r hr).symm) h2 (l + 1) hl ▸ h2 l hl
    rw [quant_eq_top h, quant_eq_top h2, htop, htop]

/-- Three codebooks, one per level. -/
def books {K : ℕ} (c0 c1 c2 : Fin K → Fin d → EReal) : ℕ → Fin K → Fin d → EReal
  | 0 => c0
  | 1 => c1
  | _ => c2

variable {K n : ℕ} [NeZero K]

/-- One row's loss as the kernel arranges it: `dec` decodes, `cbs` are the codebooks, `r0` the latent row, `x` the row. -/
def rowLossK (dec : (Fin d → EReal) → Fin n → EReal) (cbs : ℕ → Fin K → Fin d → EReal) (r0 : Fin d → EReal)
    (x : Fin n → EReal) : EReal :=
  normSq (diff (dec fun k => r0 k - res (fun l => nearest distK (cbs l)) r0 3 k) x)
    + (1.25 : ℝ) * quant (fun l => nearest distK (cbs l)) r0 3

/-- One row's loss as the reference arranges it. -/
def rowLossR (dec : (Fin d → EReal) → Fin n → EReal) (cbs : ℕ → Fin K → Fin d → EReal) (r0 : Fin d → EReal)
    (x : Fin n → EReal) : EReal :=
  normSq (diff (dec fun k => ∑ i ∈ range 3, nearest distR (cbs i) (res (fun l => nearest distR (cbs l)) r0 i) k) x)
    + (quant (fun l => nearest distR (cbs l)) r0 3 + (0.25 : ℝ) * quant (fun l => nearest distR (cbs l)) r0 3)

/-- The two arrangements give every row the same loss, whatever the inputs. -/
theorem rowLossK_eq_rowLossR (dec : (Fin d → EReal) → Fin n → EReal) (cbs : ℕ → Fin K → Fin d → EReal)
    (r0 : Fin d → EReal) (x : Fin n → EReal) : rowLossK dec cbs r0 x = rowLossR dec cbs r0 x :=
  row_loss_eq 3 (by norm_num) (fun l _ h => nearest_eq (cbs l) h) (fun e => normSq (diff (dec e) x))
    (fun _ => normSq_nonneg _) 1.25 0.25 (by norm_num) (by norm_num)

end Chain

end Cert.RowMath

end
-- ==== Proof.KernelRow.lean ====
module

public import proofs.«01_k».proof.Proof.Gen.KernelIdeal.Skeleton
public import proofs.«01_k».proof.Proof.RowMath
public import Idealize.ShloMosaic.Lib.Pointwise

/-! The kernel's tile at an index: every row's loss is `RowMath`'s formula in the kernel's arrangement. -/

@[expose] public section

set_option maxRecDepth 16384

noncomputable section

namespace Cert.KernelValue

open Cert.KernelIdeal Cert.KernelIdeal.Gen Idealize.ShloMosaic Cert.RowMath

variable {F : FTy → Type} [FloatOps F]

/-- The kernel's distances of a tile's residuals to the columns of a transposed codebook. -/
def distT (r : FVec F S256x32 .f32) (cbt : FVec F S32x8192 .f32) : FVec F S256x8192 .f32 :=
  subf (broadcastTo S256x8192 (shapeCast S1x8192
      (multiReduction .add [0] S8192 (mulf cbt cbt) 0x00000000#32 reduces_S32x8192_S8192 (.inl rfl) rfl)
      shapeCasts_S8192_S1x8192) broadcasts_S1x8192_S256x8192)
    (mulf (broadcast S256x8192 (Scalar.ofBits .f32 0x40000000#32))
      (matmul dot_S256x32_S32x8192_S256x8192_1_0_0_1_n_n none r cbt (constant S256x8192 .f32 0x00000000#32)))

/-- The index the kernel chooses in every row of a distance array. -/
def idxT (D : FVec F S256x8192 .f32) : IVec S256 32 :=
  multiReductionI .minsi [1] S256
    (select (cmpf .oeq D (broadcastTo S256x8192 (shapeCast S256x1
          (multiReduction .minimumf [1] S256 D 0x7F800000#32 reduces_S256x8192_S256 (.inl rfl) rfl)
          shapeCasts_S256_S256x1) broadcasts_S256x1_S256x8192))
      (iota .tc S256x8192 32 [1] iota_S256x8192_d1_w32) (broadcast S256x8192 8192#32))
    2147483647#32 reduces_S256x8192_S256 rfl

/-- An index array as rows of ones and zeros. -/
def onehotT (ids : IVec S256 32) : FVec F S256x8192 .f32 :=
  sitofp .f32 (extui 32 (cmpi .eq (iota .tc S256x8192 32 [1] iota_S256x8192_d1_w32)
    (broadcastTo S256x8192 (shapeCast S256x1 ids shapeCasts_S256_S256x1) broadcasts_S256x1_S256x8192)) natLt_1_32)

/-- One level: the residual less the codebook column the kernel chooses. -/
def levelT (r : FVec F S256x32 .f32) (cbt : FVec F S32x8192 .f32) : FVec F S256x32 .f32 :=
  subf r (matmul dot_S256x8192_S32x8192_S256x32_1_1_0_0_n_n none (onehotT (idxT (distT r cbt))) cbt
    (constant S256x32 .f32 0x00000000#32))

/-- The transposed codebook as rows. -/
def colsT (cbt : FVec Ideal S32x8192 .f32) (j : Fin 8192) (k : Fin 32) : EReal := cbt (ix2 k j)

/-- A row of a tile's latent array. -/
def rowT (r : FVec Ideal S256x32 .f32) (i : Fin 256) (k : Fin 32) : EReal := r (ix2 i k)

/-- The word of the factor in the distances is two. -/
theorem two_bits : Ideal.ofBits .f32 0x40000000#32 = 2 := by
  simp [Ideal.ofBits, Ideal.ieee]
  rw [← EReal.coe_mul]
  norm_num
  rfl

/-- The word the search for the smallest distance starts from is plus infinity. -/
theorem inf_bits : Ideal.ofBits .f32 0x7F800000#32 = ⊤ := by
  simp [Ideal.ofBits, Ideal.ieee]

/-- A tile's distance array holds the kernel's distances of its rows. -/
theorem distT_apply (r : FVec Ideal S256x32 .f32) (cbt : FVec Ideal S32x8192 .f32) (i : Fin 256) (j : Fin 8192) :
    distT r cbt (ix2 i j) = distK (colsT cbt) (rowT r i) j := by
  pointwise [distT]
  rw [two_bits]
  rfl

/-- A signed smallest word, read as an integer. -/
theorem toInt_minsi_eq (a b : BitVec 32) : (IntOp.minsi a b).toInt = min a.toInt b.toInt := by
  unfold IntOp.minsi
  simp only [BitVec.slt, decide_eq_true_eq]
  split <;> omega

/-- The signed smallest of the indices at which a condition holds (8192 elsewhere) is the first such index. -/
theorem fold_minsi_first (P : Fin 8192 → Prop) [DecidablePred P] (i : Fin 8192) (hi : P i) (h : ∀ j, P j → i ≤ j) :
    Finset.univ.fold IntOp.minsi 2147483647#32 (fun j : Fin 8192 => if P j then BitVec.ofNat 32 j.val else 8192#32)
      = BitVec.ofNat 32 i.val := by
  have hv : ∀ j : Fin 8192, (BitVec.ofNat 32 j.val).toInt = j.val := fun j => by
    have := j.isLt
    rw [BitVec.toInt_eq_toNat_of_lt (by rw [BitVec.toNat_ofNat]; omega), BitVec.toNat_ofNat]
    omega
  apply BitVec.eq_of_toInt_eq
  rw [← Finset.fold_hom (op' := min) (m := BitVec.toInt) toInt_minsi_eq, hv]
  refine le_antisymm (Finset.fold_min_le _ |>.mpr (Or.inr ⟨i, Finset.mem_univ _, by rw [if_pos hi, hv]⟩))
    (Finset.le_fold_min _ |>.mpr ⟨?_, fun j _ => ?_⟩)
  · have := i.isLt
    have e : (2147483647#32).toInt = 2147483647 := by decide
    rw [e]
    omega
  · by_cases hj : P j
    · rw [if_pos hj, hv]
      exact_mod_cast h j hj
    · have := i.isLt
      have e : (8192#32).toInt = 8192 := by decide
      rw [if_neg hj, e]
      omega

/-- The index the kernel finds in a row is the first one of the smallest distance. -/
theorem idxT_apply (D : FVec Ideal S256x8192 .f32) (i : Fin 256) :
    idxT D (ix1 i) = BitVec.ofNat 32 (firstMin fun j : Fin 8192 => D (ix2 i j)).val := by
  pointwise [idxT]
  rw [inf_bits]
  have hm := fold_min_eq fun j : Fin 8192 => D (ix2 i j)
  have hs := firstMin_spec fun j : Fin 8192 => D (ix2 i j)
  refine fold_minsi_first _ _ ?_ fun j hj => ?_
  · exact hm.symm
  · exact hs.2 j (hj.trans hm).le

/-- The one-hot array is one at the found index of a row and zero elsewhere. -/
theorem onehotT_apply (ids : IVec S256 32) (i : Fin 256) (j n : Fin 8192) (h : ids (ix1 i) = BitVec.ofNat 32 n.val) :
    onehotT (F := Ideal) ids (ix2 i j) = if j = n then 1 else 0 := by
  pointwise [onehotT]
  rw [h]
  have e : (BitVec.ofNat 32 j.val = BitVec.ofNat 32 n.val) ↔ j = n := by
    refine ⟨fun h => Fin.ext ?_, fun h => h ▸ rfl⟩
    have := congrArg BitVec.toNat h
    have := j.isLt
    have := n.isLt
    simp only [BitVec.toNat_ofNat] at *
    omega
  by_cases hj : j = n
  · rw [if_pos hj, hj]
    simp [IntOp.cmpi, FloatOps.sitofp]
  · rw [if_neg hj]
    simp [IntOp.cmpi, FloatOps.sitofp, beq_false_of_ne (mt e.mp hj)]

/-- A level leaves of a row its difference to the codebook row nearest by the kernel's distances. -/
theorem levelT_apply (r : FVec Ideal S256x32 .f32) (cbt : FVec Ideal S32x8192 .f32) (i : Fin 256) (k : Fin 32) :
    levelT r cbt (ix2 i k) = diff (rowT r i) (nearest distK (colsT cbt) (rowT r i)) k := by
  pointwise [levelT]
  have h := idxT_apply (distT r cbt) i
  simp only [distT_apply] at h
  simp only [fun j => onehotT_apply _ i j _ h, ite_mul, one_mul, zero_mul, Finset.sum_ite_eq', Finset.mem_univ, if_true]
  rfl

/-- The sum of a tile's squared latent rows, added to an array. -/
def quantT (acc : FVec F S256 .f32) (r : FVec F S256x32 .f32) : FVec F S256 .f32 :=
  addf acc (multiReduction .add [1] S256 (mulf r r) 0x00000000#32 reduces_S256x32_S256 (.inl rfl) rfl)

/-- The decoder's first layer with its rectifier. -/
def hiddenT (e : FVec F S256x32 .f32) (w : FVec F S32x512 .f32) (b : FVec F S1x512 .f32) : FVec F S256x512 .f32 :=
  maximumf (addf (matmul dot_S256x32_S32x512_S256x512_1_0_0_1_n_n none e w (constant S256x512 .f32 0x00000000#32))
    (broadcastTo S256x512 (shapeCast S1x512 (shapeCast S512 b shapeCasts_S1x512_S512) shapeCasts_S512_S1x512)
      broadcasts_S1x512_S256x512)) (broadcast S256x512 (Scalar.ofBits .f32 0x00000000#32))

/-- What the kernel writes for a tile, of the blocks of its sixteen inputs. -/
def tileT (x : FVec F S256x768 .f32) (ew0 : FVec F S768x512 .f32) (eb0 : FVec F S1x512 .f32) (ew1 : FVec F S512x256 .f32)
    (eb1 : FVec F S1x256 .f32) (ew2 : FVec F S256x32 .f32) (eb2 : FVec F S1x32 .f32) (dw0 : FVec F S32x512 .f32)
    (db0 : FVec F S1x512 .f32) (dw1 : FVec F S512x256 .f32) (db1 : FVec F S1x256 .f32) (dw2 : FVec F S256x768 .f32)
    (db2 : FVec F S1x768 .f32) (c0 c1 c2 : FVec F S32x8192 .f32) : FVec F S1x1x128 .f32 :=
  let r0 := k0_pay2 x ew0 eb0 ew1 eb1 ew2 eb2
  let r1 := levelT r0 c0
  let r2 := levelT r1 c1
  let r3 := levelT r2 c2
  k0_pay1 x (quantT (quantT (quantT (broadcast S256 (Scalar.ofBits .f32 0x00000000#32)) r1) r2) r3)
    (hiddenT (subf r0 r3) dw0 db0) dw1 db1 dw2 db2

/-- A weight array as a matrix. -/
def mat {n m : ℕ} (w : FVec Ideal ⟨2, ![n, m]⟩ .f32) (i : Fin n) (j : Fin m) : EReal := w (ix2 i j)

/-- A row of the tile's encoder output is the encoder of that row. -/
theorem enc_apply (x : FVec Ideal S256x768 .f32) (ew0 : FVec Ideal S768x512 .f32) (eb0 : FVec Ideal S1x512 .f32)
    (ew1 : FVec Ideal S512x256 .f32) (eb1 : FVec Ideal S1x256 .f32) (ew2 : FVec Ideal S256x32 .f32)
    (eb2 : FVec Ideal S1x32 .f32) (i : Fin 256) :
    rowT (k0_pay2 x ew0 eb0 ew1 eb1 ew2 eb2) i =
      mlp (mat ew0) (mat eb0 0) (mat ew1) (mat eb1 0) (mat ew2) (mat eb2 0) (mat x i) := by
  funext k
  unfold rowT
  pointwise [k0_pay2]
  rfl

/-- A level adds the squared residual of a row to the row's quantisation loss. -/
theorem quantT_apply (acc : FVec Ideal S256 .f32) (r : FVec Ideal S256x32 .f32) (i : Fin 256) :
    quantT acc r (ix1 i) = acc (ix1 i) + normSq (rowT r i) := by
  pointwise [quantT]
  rfl

/-- A row of the decoder's first hidden layer. -/
theorem hiddenT_apply (e : FVec Ideal S256x32 .f32) (w : FVec Ideal S32x512 .f32) (b : FVec Ideal S1x512 .f32) (i : Fin 256)
    (k : Fin 512) : hiddenT e w b (ix2 i k) = relu (affine (mat w) (mat b 0) (rowT e i)) k := by
  pointwise [hiddenT]
  rfl

/-- The last step of a tile: the decoder's other layers, every row's loss, and their sum in every lane. -/
theorem last_apply (x : FVec Ideal S256x768 .f32) (acc : FVec Ideal S256 .f32) (h : FVec Ideal S256x512 .f32)
    (w1 : FVec Ideal S512x256 .f32) (b1 : FVec Ideal S1x256 .f32) (w2 : FVec Ideal S256x768 .f32) (b2 : FVec Ideal S1x768 .f32)
    (l : Fin 128) : k0_pay1 x acc h w1 b1 w2 b2 (ix3 0 0 l) =
      ∑ i : Fin 256, (normSq (diff (affine (mat w2) (mat b2 0) (relu (affine (mat w1) (mat b1 0) (mat h i)))) (mat x i))
        + Ideal.ofBits .f32 0x3FA00000#32 * acc (ix1 i)) := by
  pointwise [k0_pay1]
  rfl

/-- The word of the weight on the quantisation loss is five quarters. -/
theorem weight_bits : Ideal.ofBits .f32 0x3FA00000#32 = ((1.25 : ℝ) : EReal) := by
  simp [Ideal.ofBits, Ideal.ieee]
  rw [← EReal.coe_mul]
  norm_num

/-- Every lane of what the kernel writes for a tile is the sum of the tile's row losses. -/
theorem tileT_apply (x : FVec Ideal S256x768 .f32) (ew0 : FVec Ideal S768x512 .f32) (eb0 : FVec Ideal S1x512 .f32)
    (ew1 : FVec Ideal S512x256 .f32) (eb1 : FVec Ideal S1x256 .f32) (ew2 : FVec Ideal S256x32 .f32)
    (eb2 : FVec Ideal S1x32 .f32) (dw0 : FVec Ideal S32x512 .f32) (db0 : FVec Ideal S1x512 .f32)
    (dw1 : FVec Ideal S512x256 .f32) (db1 : FVec Ideal S1x256 .f32) (dw2 : FVec Ideal S256x768 .f32)
    (db2 : FVec Ideal S1x768 .f32) (c0 c1 c2 : FVec Ideal S32x8192 .f32) (l : Fin 128) :
    tileT x ew0 eb0 ew1 eb1 ew2 eb2 dw0 db0 dw1 db1 dw2 db2 c0 c1 c2 (ix3 0 0 l) =
      ∑ i : Fin 256, rowLossK (mlp (mat dw0) (mat db0 0) (mat dw1) (mat db1 0) (mat dw2) (mat db2 0))
        (books (colsT c0) (colsT c1) (colsT c2))
        (mlp (mat ew0) (mat eb0 0) (mat ew1) (mat eb1 0) (mat ew2) (mat eb2 0) (mat x i)) (mat x i) := by
  have hl : ∀ (r : FVec Ideal S256x32 .f32) (c : FVec Ideal S32x8192 .f32) (i : Fin 256),
      rowT (levelT r c) i = diff (rowT r i) (nearest distK (colsT c) (rowT r i)) := fun r c i =>
    funext fun k => levelT_apply r c i k
  unfold tileT
  rw [last_apply]
  refine Finset.sum_congr rfl fun i _ => ?_
  have hh : ∀ (e : FVec Ideal S256x32 .f32), mat (hiddenT e dw0 db0) i = relu (affine (mat dw0) (mat db0 0) (rowT e i)) :=
    fun e => funext fun k => hiddenT_apply e dw0 db0 i k
  have hs : ∀ a b : FVec Ideal S256x32 .f32, rowT (subf a b) i = fun k => rowT a i k - rowT b i k := fun a b => by
    funext k
    unfold rowT
    pointwise []
  have hz : (broadcast S256 (Scalar.ofBits .f32 0x00000000#32) : FVec Ideal S256 .f32) (ix1 i) = 0 := by
    pointwise []
  rw [hh, hs, quantT_apply, quantT_apply, quantT_apply, hz, zero_add, weight_bits]
  simp only [hl, enc_apply]
  unfold rowLossK quant
  rw [Finset.sum_range_succ, Finset.sum_range_succ, Finset.sum_range_one]
  rfl

end Cert.KernelValue

end
-- ==== Proof.KernelBlocks.lean ====
module

public import proofs.«01_k».proof.Proof.Gen.KernelIdeal.Frame
public import proofs.«01_k».proof.Proof.KernelRow
public import Idealize.ShloMosaic.Lib.Pipeline.Value

/-! The kernel's blocks: what a grid point reads of the arrays the launch finds, what it leaves in the output's
block, and how the host's first operations prepare the arrays. -/

@[expose] public section

set_option maxRecDepth 16384

noncomputable section

namespace Cert.KernelValue

open Cert.KernelIdeal Cert.KernelIdeal.Gen Idealize.ShloMosaic Idealize.ShloMosaic.TcCoe Idealize.SL.Sem Cert.RowMath

variable {F : FTy → Type} [FloatOps F]

/-- Two zero offsets. -/
theorem off2_zero : (![0, 0] : Fin 2 → Nat) = fun _ => 0 := funext fun a => by fin_cases a <;> rfl

/-- Three zero offsets. -/
theorem off3_zero : (![0, 0, 0] : Fin 3 → Nat) = fun _ => 0 := funext fun a => by fin_cases a <;> rfl

/-- What one grid point leaves in the output's block is `tileT` of the blocks it reads. -/
theorem out_eq (x0 : Vec F S256x768 .f32) (x1 : Vec F S768x512 .f32) (x2 : Vec F S1x512 .f32) (x3 : Vec F S512x256 .f32)
    (x4 : Vec F S1x256 .f32) (x5 : Vec F S256x32 .f32) (x6 : Vec F S1x32 .f32) (x7 : Vec F S32x512 .f32)
    (x8 : Vec F S1x512 .f32) (x9 : Vec F S512x256 .f32) (x10 : Vec F S1x256 .f32) (x11 : Vec F S256x768 .f32)
    (x12 : Vec F S1x768 .f32) (x13 x14 x15 : Vec F S32x8192 .f32) :
    out0_16 x0 x1 x2 x3 x4 x5 x6 x7 x8 x9 x10 x11 x12 x13 x14 x15
      = tileT x0 x1 x2 x3 x4 x5 x6 x7 x8 x9 x10 x11 x12 x13 x14 x15 := by
  unfold_out out0_16
  rw [View.canon_unit_zero off3_zero, show View.ld x0 r0_0 = x0 from View.ld_unit_zero off2_zero _ _,
    show View.ld x1 r0_1 = x1 from View.ld_unit_zero off2_zero _ _,
    show View.ld x2 r0_2 = x2 from View.ld_unit_zero off2_zero _ _,
    show View.ld x3 r0_3 = x3 from View.ld_unit_zero off2_zero _ _,
    show View.ld x4 r0_4 = x4 from View.ld_unit_zero off2_zero _ _,
    show View.ld x5 r0_5 = x5 from View.ld_unit_zero off2_zero _ _,
    show View.ld x6 r0_6 = x6 from View.ld_unit_zero off2_zero _ _,
    show View.ld x7 r0_8 = x7 from View.ld_unit_zero off2_zero _ _,
    show View.ld x8 r0_2 = x8 from View.ld_unit_zero off2_zero _ _,
    show View.ld x9 r0_3 = x9 from View.ld_unit_zero off2_zero _ _,
    show View.ld x10 r0_4 = x10 from View.ld_unit_zero off2_zero _ _,
    show View.ld x11 r0_0 = x11 from View.ld_unit_zero off2_zero _ _,
    show View.ld x12 r0_9 = x12 from View.ld_unit_zero off2_zero _ _,
    show View.ld x13 r0_7 = x13 from View.ld_unit_zero off2_zero _ _,
    show View.ld x14 r0_7 = x14 from View.ld_unit_zero off2_zero _ _,
    show View.ld x15 r0_7 = x15 from View.ld_unit_zero off2_zero _ _]
  unfold tileT k0_pay13 k0_pay12 k0_pay11 k0_pay10 k0_pay9 k0_pay8 k0_pay7 k0_pay6 k0_pay5 k0_pay4 k0_pay3
  simp only [shapeCast_self]
  rfl

/-- A bias array as a vector. -/
def vec {n : ℕ} (b : FVec Ideal ⟨1, ![n]⟩ .f32) (j : Fin n) : EReal := b (ix1 j)

/-- Row `n`'s loss in the kernel's arrangement, of the arguments' contents. -/
def lossK (x : FVec Ideal S16384x768 .f32) (ew0 : FVec Ideal S768x512 .f32) (eb0 : FVec Ideal S512 .f32)
    (ew1 : FVec Ideal S512x256 .f32) (eb1 : FVec Ideal S256 .f32) (ew2 : FVec Ideal S256x32 .f32) (eb2 : FVec Ideal S32 .f32)
    (dw0 : FVec Ideal S32x512 .f32) (db0 : FVec Ideal S512 .f32) (dw1 : FVec Ideal S512x256 .f32) (db1 : FVec Ideal S256 .f32)
    (dw2 : FVec Ideal S256x768 .f32) (db2 : FVec Ideal S768 .f32) (cb0 cb1 cb2 : FVec Ideal S8192x32 .f32)
    (n : Fin 16384) : EReal :=
  rowLossK (mlp (mat dw0) (vec db0) (mat dw1) (vec db1) (mat dw2) (vec db2)) (books (mat cb0) (mat cb1) (mat cb2))
    (mlp (mat ew0) (vec eb0) (mat ew1) (vec eb1) (mat ew2) (vec eb2) (mat x n)) (mat x n)

/-- Place `i` of tile `t` among all rows. -/
def rowAt (t : Fin 64) (i : Fin 256) : Fin 16384 := ⟨t.val * 256 + i.val, by omega⟩

/-- A bias lifted to one row, read in that row, is the bias. -/
theorem lift_bias {n : ℕ} (b : FVec Ideal ⟨1, ![n]⟩ .f32) (h : (⟨1, ![n]⟩ : Shape).ShapeCasts ⟨2, ![1, n]⟩) :
    mat (shapeCast ⟨2, ![1, n]⟩ b h) 0 = vec b := by
  funext j
  unfold mat vec
  rw [shapeCast_addUnit_apply]
  exact congrArg b (funext fun a => by match a with | ⟨0, _⟩ => rfl)

/-- The columns of a transposed codebook are its rows. -/
theorem cols_transpose (cb : FVec Ideal S8192x32 .f32) :
    colsT (transpose S32x8192 [1, 0] cb transposes_S8192x32_S32x8192_1_0) = mat cb := by
  funext j k
  unfold mat colsT
  pointwise []

variable (m : (ℓ : Loc nD τ sig) → Buf (Elt F) ℓ) (c : Dev nD)

/-- Every window but the rows' and the output's starts at its array's first element, at every grid point. -/
theorem idx_whole : ∀ w : Fin 17, w ≠ 0 → w ≠ 16 → ∀ (t : Fin grid0.N) a, (win0 w).index t a = 0 := by decide +kernel

/-- Step `t` reads block `t` of the rows of `x`. -/
theorem idx_x : ∀ t : Fin grid0.N, win0_0.index t (0 : Fin 2) = t.val ∧ win0_0.index t (1 : Fin 2) = 0 := by decide +kernel

/-- Step `t` writes place `t` of the result array. -/
theorem idx_out : ∀ t : Fin grid0.N, win0_16.index t (0 : Fin 3) = t.val ∧ win0_16.index t (1 : Fin 3) = 0
    ∧ win0_16.index t (2 : Fin 3) = 0 := by decide +kernel

/-- The grid has 64 steps. -/
theorem points : grid0.N = 64 := by decide +kernel

/-- So an index of such a window's block is the same index of its array. -/
theorem emb_whole (w : Fin 17) (h0 : w ≠ 0) (h16 : w ≠ 16) (t : Fin grid0.N) (y : ((win0 w).xblock (grid0.coords t)).Idx)
    (a : Fin (win0 w).shape.rank) : (((win0 w).rect t).emb y a : ℕ) = y a :=
  (win0 w).rect_emb_val_of_index_zero t a (idx_whole w h0 h16 t a) y

set_option maxHeartbeats 2000000 in
/-- What a grid point leaves in the output's block, of the arrays the launch finds. -/
theorem after_eq (t : Fin cfg0.N) : (dats m 0 c).after 16 t =
    tileT (iblk m c 0 t) (V m c main_arg2) (V m c main_v0) (V m c main_arg4) (V m c main_v1) (V m c main_arg6) (V m c main_v2)
      (V m c main_arg8) (V m c main_v3) (V m c main_arg10) (V m c main_v4) (V m c main_arg12) (V m c main_v5)
      (V m c main_v6) (V m c main_v7) (V m c main_v8) := by
  rw [after0_16, out_eq]
  have e1 : iblk m c 1 t = V m c main_arg2 := funext fun y =>
    congrArg (V m c main_arg2) (funext fun a => Fin.ext (emb_whole 1 (by decide) (by decide) t y a))
  have e2 : iblk m c 2 t = V m c main_v0 := funext fun y =>
    congrArg (V m c main_v0) (funext fun a => Fin.ext (emb_whole 2 (by decide) (by decide) t y a))
  have e3 : iblk m c 3 t = V m c main_arg4 := funext fun y =>
    congrArg (V m c main_arg4) (funext fun a => Fin.ext (emb_whole 3 (by decide) (by decide) t y a))
  have e4 : iblk m c 4 t = V m c main_v1 := funext fun y =>
    congrArg (V m c main_v1) (funext fun a => Fin.ext (emb_whole 4 (by decide) (by decide) t y a))
  have e5 : iblk m c 5 t = V m c main_arg6 := funext fun y =>
    congrArg (V m c main_arg6) (funext fun a => Fin.ext (emb_whole 5 (by decide) (by decide) t y a))
  have e6 : iblk m c 6 t = V m c main_v2 := funext fun y =>
    congrArg (V m c main_v2) (funext fun a => Fin.ext (emb_whole 6 (by decide) (by decide) t y a))
  have e7 : iblk m c 7 t = V m c main_arg8 := funext fun y =>
    congrArg (V m c main_arg8) (funext fun a => Fin.ext (emb_whole 7 (by decide) (by decide) t y a))
  have e8 : iblk m c 8 t = V m c main_v3 := funext fun y =>
    congrArg (V m c main_v3) (funext fun a => Fin.ext (emb_whole 8 (by decide) (by decide) t y a))
  have e9 : iblk m c 9 t = V m c main_arg10 := funext fun y =>
    congrArg (V m c main_arg10) (funext fun a => Fin.ext (emb_whole 9 (by decide) (by decide) t y a))
  have e10 : iblk m c 10 t = V m c main_v4 := funext fun y =>
    congrArg (V m c main_v4) (funext fun a => Fin.ext (emb_whole 10 (by decide) (by decide) t y a))
  have e11 : iblk m c 11 t = V m c main_arg12 := funext fun y =>
    congrArg (V m c main_arg12) (funext fun a => Fin.ext (emb_whole 11 (by decide) (by decide) t y a))
  have e12 : iblk m c 12 t = V m c main_v5 := funext fun y =>
    congrArg (V m c main_v5) (funext fun a => Fin.ext (emb_whole 12 (by decide) (by decide) t y a))
  have e13 : iblk m c 13 t = V m c main_v6 := funext fun y =>
    congrArg (V m c main_v6) (funext fun a => Fin.ext (emb_whole 13 (by decide) (by decide) t y a))
  have e14 : iblk m c 14 t = V m c main_v7 := funext fun y =>
    congrArg (V m c main_v7) (funext fun a => Fin.ext (emb_whole 14 (by decide) (by decide) t y a))
  have e15 : iblk m c 15 t = V m c main_v8 := funext fun y =>
    congrArg (V m c main_v8) (funext fun a => Fin.ext (emb_whole 15 (by decide) (by decide) t y a))
  rw [e1, e2, e3, e4, e5, e6, e7, e8, e9, e10, e11, e12, e13, e14, e15]

/-- The host's operations before the launch lay the biases out as rows and transpose the codebooks. -/
theorem V_prep : (V m c main_v0 = shapeCast S1x512 (m ((c : Thread nD τ).loc main_arg3)) shapeCasts_S512_S1x512
    ∧ V m c main_v1 = shapeCast S1x256 (m ((c : Thread nD τ).loc main_arg5)) shapeCasts_S256_S1x256
    ∧ V m c main_v2 = shapeCast S1x32 (m ((c : Thread nD τ).loc main_arg7)) shapeCasts_S32_S1x32
    ∧ V m c main_v3 = shapeCast S1x512 (m ((c : Thread nD τ).loc main_arg9)) shapeCasts_S512_S1x512
    ∧ V m c main_v4 = shapeCast S1x256 (m ((c : Thread nD τ).loc main_arg11)) shapeCasts_S256_S1x256
    ∧ V m c main_v5 = shapeCast S1x768 (m ((c : Thread nD τ).loc main_arg13)) shapeCasts_S768_S1x768)
    ∧ V m c main_v6 = transpose S32x8192 [1, 0] (m ((c : Thread nD τ).loc main_arg14)) transposes_S8192x32_S32x8192_1_0
    ∧ V m c main_v7 = transpose S32x8192 [1, 0] (m ((c : Thread nD τ).loc main_arg15)) transposes_S8192x32_S32x8192_1_0
    ∧ V m c main_v8 = transpose S32x8192 [1, 0] (m ((c : Thread nD τ).loc main_arg16)) transposes_S8192x32_S32x8192_1_0 := by
  simp only [V, V0, List.flatten_cons, List.flatten_nil, List.append_nil]
  refine ⟨⟨?_, ?_, ?_, ?_, ?_, ?_⟩, ?_, ?_, ?_⟩
  all_goals
    after_results_simp
    try rfl

end Cert.KernelValue

end
-- ==== Proof.KernelRun.lean ====
module

public import proofs.«01_k».proof.Proof.KernelBlocks

/-! The kernel's launch as one value: the array it writes holds a tile's sum at each of its 64 places, and the
host's division of their total by 16384 is the loss. -/

@[expose] public section

set_option maxRecDepth 16384

noncomputable section

namespace Cert.KernelValue

open Cert.KernelIdeal Cert.KernelIdeal.Gen Idealize.ShloMosaic Idealize.ShloMosaic.TcCoe Idealize.SL.Sem Cert.RowMath

/-- What the host's last operations leave in the result buffer, of the array the launch wrote. -/
theorem tail_value {F : FTy → Type} [FloatOps F] (m : (ℓ : Loc nD τ sig) → Buf (Elt F) ℓ) (c : Dev nD) :
    Pipeline.afterTail₀ cfgs (dats m) 0 (V0 m) [hostOps1] c main_v13 =
      Host.divf (Host.reduceAdd (shapeCast S64 (extractStridedSlice S64x1x1 ![0, 0, 0] ((dats m 0 c).arrAt 16 cfg0.N)
        slices_S64x1x128_S64x1x1_0_0_0) shapeCasts_S64x1x1_S64) (constant S_ .f32 0x00000000#32) reducesTo_S64_S_d0 h_S_)
        (constant S_ .f32 0x46800000#32) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.devRef .tc main_v9)
      = (dats m 0 c).arrAt 16 cfg0.N from Pipeline.withArrays_arr (cfgs 0).spec launch0.win.arr_inj c (V0 m c) _ 16]
  rfl

variable (m : (ℓ : Loc nD τ sig) → Buf (Elt Ideal) ℓ) (c : Dev nD)

/-- Row `n`'s loss of the arguments in memory. -/
def lossAt (n : Fin 16384) : EReal :=
  lossK (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) n

/-- The array the launch writes: in every lane of place `t` the sum of tile `t`'s row losses. -/
def tileSums : FVec Ideal S64x1x128 .f32 := fun y => ∑ i : Fin 256, lossAt m c (rowAt (y 0) i)

/-- Row `i` of the block of rows at a grid point is row `256 t + i` of the argument. -/
theorem block_row (t : Fin cfg0.N) (u : Fin 64) (hu : u.val = t.val) (i : Fin 256) :
    mat (n := 256) (m := 768) (iblk m c 0 t) i = mat (m ((c : Thread nD τ).loc main_arg0)) (rowAt u i) := by
  funext k
  show V m c main_arg0 (((cfg0.win 0).blk t).view.emb (ix2 i k)) = m ((c : Thread nD τ).loc main_arg0) (ix2 (rowAt u i) k)
  rw [V_main_arg0]
  obtain ⟨h0, h1⟩ := idx_x t
  refine congrArg (m ((c : Thread nD τ).loc main_arg0)) (funext fun a => Fin.ext ?_)
  match a with
  | ⟨0, _⟩ =>
    show win0_0.index t (0 : Fin 2) * 256 + 1 * i.val = u.val * 256 + i.val
    omega
  | ⟨1, _⟩ =>
    show win0_0.index t (1 : Fin 2) * 768 + 1 * k.val = k.val
    omega

/-- What a grid point leaves in the output's block is the sum of its tile's row losses, in every lane. -/
theorem after_apply (t : Fin cfg0.N) (u : Fin 64) (hu : u.val = t.val) (l : Fin 128) :
    ((dats m 0 c).after 16 t : FVec Ideal S1x1x128 .f32) (ix3 0 0 l) = (∑ i : Fin 256, lossAt m c (rowAt u i) : EReal) := by
  obtain ⟨⟨h0, h1, h2, h3, h4, h5⟩, h6, h7, h8⟩ := V_prep m c
  rw [after_eq, tileT_apply, h0, h1, h2, h3, h4, h5, h6, h7, h8, V_main_arg2, V_main_arg4, V_main_arg6, V_main_arg8,
    V_main_arg10, V_main_arg12]
  refine congrArg (fun f : Fin 256 → EReal => ∑ i, f i) (funext fun i => ?_)
  rw [lift_bias, lift_bias, lift_bias, lift_bias, lift_bias, lift_bias, cols_transpose, cols_transpose, cols_transpose,
    block_row m c t u hu]
  rfl

/-- An index of the output's block at a grid point lies in the array at that point's place. -/
theorem emb_out (t : Fin cfg0.N) (u : Fin 64) (hu : u.val = t.val) (a : Fin 1) (b : Fin 1) (l : Fin 128) :
    ((cfg0.win 16).blk t).view.emb (ix3 a b l) = ix3 u 0 l := by
  obtain ⟨h0, h1, h2⟩ := idx_out t
  funext d
  apply Fin.ext
  match d with
  | ⟨0, _⟩ =>
    show win0_16.index t (0 : Fin 3) * 1 + 1 * a.val = u.val
    omega
  | ⟨1, _⟩ =>
    show win0_16.index t (1 : Fin 3) * 1 + 1 * b.val = 0
    omega
  | ⟨2, _⟩ =>
    show win0_16.index t (2 : Fin 3) * 128 + 1 * l.val = l.val
    omega

/-- The place of a grid point among the tiles. -/
def place (t : Fin cfg0.N) : Fin 64 := ⟨t.val, t.isLt.trans_eq points⟩

/-- What a grid point writes back is its block of the tiles' sums. -/
theorem flushed_eq (t : Fin cfg0.N) :
    (dats m 0 c).flushed 16 t = ((cfg0.win 16).blk t).view.read (Elt Ideal) (tileSums m c) := by
  funext y
  obtain ⟨a, b, l, rfl⟩ : ∃ (a : Fin 1) (b : Fin 1) (l : Fin 128), y = ix3 a b l := ⟨y 0, y 1, y 2, eq_ix3 y⟩
  obtain rfl : a = 0 := Subsingleton.elim _ _
  obtain rfl : b = 0 := Subsingleton.elim _ _
  show (dats m 0 c).after 16 t (ix3 0 0 l) = tileSums m c (((cfg0.win 16).blk t).view.emb (ix3 0 0 l))
  rw [after_apply m c t (place t) rfl, emb_out t (place t) rfl]
  rfl

/-- Every index of the array lies in some grid point's block. -/
theorem covered (y : S64x1x128.Idx) :
    ∃ t : Fin cfg0.N, (cfg0.win 16).flush t = true ∧ y ∈ ((cfg0.win 16).blk t).view.set := by
  obtain ⟨u, b, l, rfl⟩ : ∃ (u : Fin 64) (b : Fin 1) (l : Fin 128), y = ix3 u b l := ⟨y 0, y 1, y 2, eq_ix3 y⟩
  obtain rfl : b = 0 := Subsingleton.elim _ _
  let t : Fin cfg0.N := ⟨u.val, u.isLt.trans_eq points.symm⟩
  refine ⟨t, flush0_16 t, ?_⟩
  have h := ((cfg0.win 16).blk t).view.emb_mem_set (ix3 0 0 l)
  rwa [emb_out t u rfl] at h

/-- The array after the launch. -/
theorem final_array : (dats m 0 c).arrAt 16 cfg0.N = tileSums m c :=
  (dats m 0 c).arrAt_eq_of_cover 16 (tileSums m c) (fun t _ => flushed_eq m c t) covered

/-- A sum over all rows, tile by tile. -/
theorem sum_rows (f : Fin 16384 → EReal) : ∑ n, f n = ∑ t : Fin 64, ∑ i : Fin 256, f (rowAt t i) := by
  rw [← Fintype.sum_prod_type' fun (t : Fin 64) (i : Fin 256) => f (rowAt t i)]
  refine (Fintype.sum_equiv (finProdFinEquiv (m := 64) (n := 256)) _ _ fun p => congrArg f (Fin.ext ?_)).symm
  show p.1.val * 256 + p.2.val = p.2.val + 256 * p.1.val
  omega

/-- The mean of the rows' losses, as the kernel leaves it. -/
def lossMean : FVec Ideal S_ .f32 := fun _ =>
  Ideal.div (∑ n, lossAt m c n) (Ideal.ofBits .f32 0x46800000#32)

/-- The result buffer ends with the mean of the row losses. -/
theorem result_value : Pipeline.afterTail₀ cfgs (dats m) 0 (V0 m) [hostOps1] c main_v13 = lossMean m c := by
  rw [tail_value, final_array]
  funext j
  pointwise [lossMean]
  rw [sum_rows]
  rfl

end Cert.KernelValue

end
-- ==== Proof.RefOps.lean ====
module

public import proofs.«01_k».proof.Proof.Gen.ReferenceIdeal
public import Idealize.ShloMosaic.Lib.StableHlo.Run
public import Idealize.ShloMosaic.Lib.Pipeline.Frame

/-! The reference's @main as a line of host operations, cut into its stages: encoder, three quantisation
levels (the third is cut in two, because @main is printed in two halves), decoder and losses. -/

@[expose] public section

set_option maxRecDepth 16384
set_option Elab.async false

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- Three columns of one latent array each, stacked along the last axis. -/
def stack3 (u0 u1 u2 : FVec F S16384x32x1 .f32) : FVec F S16384x32x3 .f32 :=
  concatenate S16384x32x3 2 [⟨S16384x32x1, u0⟩, ⟨S16384x32x1, u1⟩, ⟨S16384x32x1, u2⟩]
    concatenates_S16384x32x1_S16384x32x1_S16384x32x1_S16384x32x3_d2

/-- The encoder's operations: `main_v13` is the latent vector, the first residual. -/
abbrev encOps : List (HloOp τ sig (Elt F)) := [
  binary main_arg0 main_arg2 main_v0 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
  unary main_arg3 main_v1 (broadcastInDim S1x512 ![1] bcast_S512_S1x512_1 : (⟨S512, .f32⟩ : BufTy).Contents (Elt F) → (⟨S1x512, .f32⟩ : BufTy).Contents (Elt F)),
  unary main_v1 main_v2 (broadcastInDim S16384x512 ![0, 1] bcast_S1x512_S16384x512_0_1 : (⟨S1x512, .f32⟩ : BufTy).Contents (Elt F) → (⟨S16384x512, .f32⟩ : BufTy).Contents (Elt F)),
  binary main_v0 main_v2 main_v3 (addf : (⟨S16384x512, .f32⟩ : BufTy).Contents (Elt F) → (⟨S16384x512, .f32⟩ : BufTy).Contents (Elt F) → (⟨S16384x512, .f32⟩ : BufTy).Contents (Elt F)),
  TRef.nullary (TRef.of (T := ⟨S_, .f32⟩) main_call0_cst) (constant S_ .f32 0x00000000#32),
  TRef.unary (TRef.of (T := ⟨S_, .f32⟩) main_call0_cst) (TRef.of (T := ⟨S16384x512, .f32⟩) main_call0_v0) (broadcastInDim S16384x512 ![] bcast_S_S16384x512),
  TRef.binary (TRef.of (T := ⟨S16384x512, .f32⟩) main_v3) (TRef.of (T := ⟨S16384x512, .f32⟩) main_call0_v0) (TRef.of (T := ⟨S16384x512, .f32⟩) main_v4) maximumf,
  binary main_v4 main_arg4 main_v5 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
  unary main_arg5 main_v6 (broadcastInDim S1x256 ![1] bcast_S256_S1x256_1 : (⟨S256, .f32⟩ : BufTy).Contents (Elt F) → (⟨S1x256, .f32⟩ : BufTy).Contents (Elt F)),
  unary main_v6 main_v7 (broadcastInDim S16384x256 ![0, 1] bcast_S1x256_S16384x256_0_1 : (⟨S1x256, .f32⟩ : BufTy).Contents (Elt F) → (⟨S16384x256, .f32⟩ : BufTy).Contents (Elt F)),
  binary main_v5 main_v7 main_v8 (addf : (⟨S16384x256, .f32⟩ : BufTy).Contents (Elt F) → (⟨S16384x256, .f32⟩ : BufTy).Contents (Elt F) → (⟨S16384x256, .f32⟩ : BufTy).Contents (Elt F)),
  TRef.nullary (TRef.of (T := ⟨S_, .f32⟩) main_call1_cst) (constant S_ .f32 0x00000000#32),
  TRef.unary (TRef.of (T := ⟨S_, .f32⟩) main_call1_cst) (TRef.of (T := ⟨S16384x256, .f32⟩) main_call1_v0) (broadcastInDim S16384x256 ![] bcast_S_S16384x256),
  TRef.binary (TRef.of (T := ⟨S16384x256, .f32⟩) main_v8) (TRef.of (T := ⟨S16384x256, .f32⟩) main_call1_v0) (TRef.of (T := ⟨S16384x256, .f32⟩) main_v9) maximumf,
  binary main_v9 main_arg6 main_v10 ((fun l r => Host.dotGeneral dot_S16384x256_S256x32_S16384x32_1_0_0_1_n_n none l r) : (⟨S16384x256, .f32⟩ : BufTy).Contents (Elt F) → (⟨S256x32, .f32⟩ : BufTy).Contents (Elt F) → (⟨S16384x32, .f32⟩ : BufTy).Contents (Elt F)),
  unary main_arg7 main_v11 (broadcastInDim S1x32 ![1] bcast_S32_S1x32_1 : (⟨S32, .f32⟩ : BufTy).Contents (Elt F) → (⟨S1x32, .f32⟩ : BufTy).Contents (Elt F)),
  unary main_v11 main_v12 (broadcastInDim S16384x32 ![0, 1] bcast_S1x32_S16384x32_0_1 : (⟨S1x32, .f32⟩ : BufTy).Contents (Elt F) → (⟨S16384x32, .f32⟩ : BufTy).Contents (Elt F)),
  binary main_v10 main_v12 main_v13 (addf : (⟨S16384x32, .f32⟩ : BufTy).Contents (Elt F) → (⟨S16384x32, .f32⟩ : BufTy).Contents (Elt F) → (⟨S16384x32, .f32⟩ : BufTy).Contents (Elt F))]

/-- The buffers `encOps` writes, in order. -/
abbrev encDst : List (Ref sig .tc) := [main_v0, main_v1, main_v2, main_v3, main_call0_cst, main_call0_v0, main_v4, main_v5, main_v6, main_v7, main_v8, main_call1_cst, main_call1_v0, main_v9, main_v10, main_v11, main_v12, main_v13]

/-- The first level's operations: distances, first smallest distance, codebook row, next residual `main_v30`. -/
abbrev level0Ops : List (HloOp τ sig (Elt F)) := [
  binary main_v13 main_v13 main_v14 (mulf : (⟨S16384x32, .f32⟩ : BufTy).Contents (Elt F) → (⟨S16384x32, .f32⟩ : BufTy).Contents (Elt F) → (⟨S16384x32, .f32⟩ : BufTy).Contents (Elt F)),
  nullary main_cst (constant S_ .f32 0x00000000#32),
  binary main_v14 main_cst main_v15 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
  unary main_v15 main_v16 (broadcastInDim S16384x1 ![0] bcast_S16384_S16384x1_0 : (⟨S16384, .f32⟩ : BufTy).Contents (Elt F) → (⟨S16384x1, .f32⟩ : BufTy).Contents (Elt F)),
  unary main_arg14 main_v17 ((transpose S32x8192 [1, 0] · transposes_S8192x32_S32x8192_1_0) : (⟨S8192x32, .f32⟩ : BufTy).Contents (Elt F) → (⟨S32x8192, .f32⟩ : BufTy).Contents (Elt F)),
  binary main_v13 main_v17 main_v18 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
  nullary main_cst_0 (constant S_ .f32 0x40000000#32),
  unary main_cst_0 main_v19 (broadcastInDim S16384x8192 ![] bcast_S_S16384x8192 : (⟨S_, .f32⟩ : BufTy).Contents (Elt F) → (⟨S16384x8192, .f32⟩ : BufTy).Contents (Elt F)),
  binary main_v19 main_v18 main_v20 (mulf : (⟨S16384x8192, .f32⟩ : BufTy).Contents (Elt F) → (⟨S16384x8192, .f32⟩ : BufTy).Contents (Elt F) → (⟨S16384x8192, .f32⟩ : BufTy).Contents (Elt F)),
  unary main_v16 main_v21 (broadcastInDim S16384x8192 ![0, 1] bcast_S16384x1_S16384x8192_0_1 : (⟨S16384x1, .f32⟩ : BufTy).Contents (Elt F) → (⟨S16384x8192, .f32⟩ : BufTy).Contents (Elt F)),
  binary main_v21 main_v20 main_v22 (subf : (⟨S16384x8192, .f32⟩ : BufTy).Contents (Elt F) → (⟨S16384x8192, .f32⟩ : BufTy).Contents (Elt F) → (⟨S16384x8192, .f32⟩ : BufTy).Contents (Elt F)),
  binary main_arg14 main_arg14 main_v23 (mulf : (⟨S8192x32, .f32⟩ : BufTy).Contents (Elt F) → (⟨S8192x32, .f32⟩ : BufTy).Contents (Elt F) → (⟨S8192x32, .f32⟩ : BufTy).Contents (Elt F)),
  nullary main_cst_1 (constant S_ .f32 0x00000000#32),
  binary main_v23 main_cst_1 main_v24 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
  unary main_v24 main_v25 (broadcastInDim S1x8192 ![1] bcast_S8192_S1x8192_1 : (⟨S8192, .f32⟩ : BufTy).Contents (Elt F) → (⟨S1x8192, .f32⟩ : BufTy).Contents (Elt F)),
  unary main_v25 main_v26 (broadcastInDim S16384x8192 ![0, 1] bcast_S1x8192_S16384x8192_0_1 : (⟨S1x8192, .f32⟩ : BufTy).Contents (Elt F) → (⟨S16384x8192, .f32⟩ : BufTy).Contents (Elt F)),
  binary main_v22 main_v26 main_v27 (addf : (⟨S16384x8192, .f32⟩ : BufTy).Contents (Elt F) → (⟨S16384x8192, .f32⟩ : BufTy).Contents (Elt F) → (⟨S16384x8192, .f32⟩ : BufTy).Contents (Elt F)),
  TRef.nullary (TRef.of (T := ⟨S16384x8192, .i32⟩) main_call2_v0) (iotaInDim S16384x8192 32 1),
  TRef.nullary (TRef.of (T := ⟨S_, .f32⟩) main_call2_cst) (constant S_ .f32 0x7F800000#32),
  TRef.nullary (TRef.of (T := ⟨S_, .i32⟩) main_call2_c) (constantI S_ 32 0#32),
  TRef.quaternary (TRef.of (T := ⟨S16384x8192, .f32⟩) main_v27) (TRef.of (T := ⟨S16384x8192, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmin_f32_i32 x y u v reducesTo_S16384x8192_S16384_d1 h_S_ j).1),
  TRef.quaternary (TRef.of (T := ⟨S16384x8192, .f32⟩) main_v27) (TRef.of (T := ⟨S16384x8192, .i32⟩) main_call2_v0) (TRef.of (T := ⟨S_, .f32⟩) main_call2_cst) (TRef.of (T := ⟨S_, .i32⟩) main_call2_c) (TRef.of (T := ⟨S16384, .i32⟩) main_v28) (fun x y u v j => (Host.argReduce reducer_argmin_f32_i32 x y u v reducesTo_S16384x8192_S16384_d1 h_S_ j).2),
  TRef.nullary (TRef.of (T := ⟨S_, .i32⟩) main_call3_c) (constantI S_ 32 0#32),
  TRef.unary (TRef.of (T := ⟨S_, .i32⟩) main_call3_c) (TRef.of (T := ⟨S16384, .i32⟩) main_call3_v0) (broadcastInDim S16384 ![] bcast_S_S16384),
  TRef.binary (TRef.of (T := ⟨S16384, .i32⟩) main_v28) (TRef.of (T := ⟨S16384, .i32⟩) main_call3_v0) (TRef.of (T := ⟨S16384, .i1⟩) main_call3_v1) (cmpi .slt),
  TRef.nullary (TRef.of (T := ⟨S_, .i32⟩) main_call3_c_0) (constantI S_ 32 8192#32),
  TRef.unary (TRef.of (T := ⟨S_, .i32⟩) main_call3_c_0) (TRef.of (T := ⟨S16384, .i32⟩) main_call3_v2) (broadcastInDim S16384 ![] bcast_S_S16384),
  TRef.binary (TRef.of (T := ⟨S16384, .i32⟩) main_v28) (TRef.of (T := ⟨S16384, .i32⟩) main_call3_v2) (TRef.of (T := ⟨S16384, .i32⟩) main_call3_v3) addi,
  TRef.ternary (TRef.of (T := ⟨S16384, .i1⟩) main_call3_v1) (TRef.of (T := ⟨S16384, .i32⟩) main_call3_v3) (TRef.of (T := ⟨S16384, .i32⟩) main_v28) (TRef.of (T := ⟨S16384, .i32⟩) main_call3_v4) select,
  TRef.unary (TRef.of (T := ⟨S16384, .i32⟩) main_call3_v4) (TRef.of (T := ⟨S16384x1, .i32⟩) main_call3_v5) (broadcastInDim S16384x1 ![0] bcast_S16384_S16384x1_0),
  TRef.nullary (TRef.of (T := ⟨S1, .i32⟩) main_call3_c_1) (constantI S1 32 8191#32),
  TRef.nullary (TRef.of (T := ⟨S_, .i32⟩) main_call3_c_2) (constantI S_ 32 0#32),
  TRef.unary (TRef.of (T := ⟨S_, .i32⟩) main_call3_c_2) (TRef.of (T := ⟨S16384x1, .i32⟩) main_call3_v6) (broadcastInDim S16384x1 ![] bcast_S_S16384x1),
  TRef.binary (TRef.of (T := ⟨S16384x1, .i32⟩) main_call3_v5) (TRef.of (T := ⟨S16384x1, .i32⟩) main_call3_v6) (TRef.of (T := ⟨S16384x1, .i1⟩) main_call3_v7) (cmpi .sge),
  TRef.unary (TRef.of (T := ⟨S1, .i32⟩) main_call3_c_1) (TRef.of (T := ⟨S1x1, .i32⟩) main_call3_v8) (broadcastInDim S1x1 ![1] bcast_S1_S1x1_1),
  TRef.unary (TRef.of (T := ⟨S1x1, .i32⟩) main_call3_v8) (TRef.of (T := ⟨S16384x1, .i32⟩) main_call3_v9) (broadcastInDim S16384x1 ![0, 1] bcast_S1x1_S16384x1_0_1),
  TRef.binary (TRef.of (T := ⟨S16384x1, .i32⟩) main_call3_v5) (TRef.of (T := ⟨S16384x1, .i32⟩) main_call3_v9) (TRef.of (T := ⟨S16384x1, .i1⟩) main_call3_v10) (cmpi .sle),
  TRef.binary (TRef.of (T := ⟨S16384x1, .i1⟩) main_call3_v7) (TRef.of (T := ⟨S16384x1, .i1⟩) main_call3_v10) (TRef.of (T := ⟨S16384x1, .i1⟩) main_call3_v11) andi,
  TRef.nullary (TRef.of (T := ⟨S_, .i1⟩) main_call3_c_3) (constantI S_ 1 1#1),
  TRef.binary (TRef.of (T := ⟨S16384x1, .i1⟩) main_call3_v11) (TRef.of (T := ⟨S_, .i1⟩) main_call3_c_3) (TRef.of (T := ⟨S16384, .i1⟩) main_call3_v12) (fun x v => Host.reduce IntOp.andi x v reducesTo_S16384x1_S16384_d1 h_S_),
  TRef.binary (TRef.of (T := ⟨S8192x32, .f32⟩) main_arg14) (TRef.of (T := ⟨S16384x1, .i32⟩) main_call3_v5) (TRef.of (T := ⟨S16384x32, .f32⟩) main_call3_v13) (fun x i => Host.gather gather_S8192x32_S16384x1_S16384x32_1_0_n_n_0_1_132 x i),
  TRef.unary (TRef.of (T := ⟨S16384, .i1⟩) main_call3_v12) (TRef.of (T := ⟨S16384x32, .i1⟩) main_call3_v14) (broadcastInDim S16384x32 ![0] bcast_S16384_S16384x32_0),
  TRef.nullary (TRef.of (T := ⟨S_, .f32⟩) main_call3_cst) (constant S_ .f32 0x7FC00000#32),
  TRef.unary (TRef.of (T := ⟨S_, .f32⟩) main_call3_cst) (TRef.of (T := ⟨S16384x32, .f32⟩) main_call3_v15) (broadcastInDim S16384x32 ![] bcast_S_S16384x32),
  TRef.ternary (TRef.of (T := ⟨S16384x32, .i1⟩) main_call3_v14) (TRef.of (T := ⟨S16384x32, .f32⟩) main_call3_v13) (TRef.of (T := ⟨S16384x32, .f32⟩) main_call3_v15) (TRef.of (T := ⟨S16384x32, .f32⟩) main_v29) select,
  binary main_v13 main_v29 main_v30 (subf : (⟨S16384x32, .f32⟩ : BufTy).Contents (Elt F) → (⟨S16384x32, .f32⟩ : BufTy).Contents (Elt F) → (⟨S16384x32, .f32⟩ : BufTy).Contents (Elt F))]

/-- The buffers `level0Ops` writes, in order. -/
abbrev level0Dst : List (Ref sig .tc) := [main_v14, main_cst, main_v15, main_v16, main_v17, main_v18, main_cst_0, main_v19, main_v20, main_v21, main_v22, main_v23, main_cst_1, main_v24, main_v25, main_v26, main_v27, main_call2_v0, main_call2_cst, main_call2_c, main_call2_v1_0, main_v28, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v29, main_v30]

/-- The second level's operations, down to the next residual `main_v47`. -/
abbrev level1Ops : List (HloOp τ sig (Elt F)) := [
  binary main_v30 main_v30 main_v31 (mulf : (⟨S16384x32, .f32⟩ : BufTy).Contents (Elt F) → (⟨S16384x32, .f32⟩ : BufTy).Contents (Elt F) → (⟨S16384x32, .f32⟩ : BufTy).Contents (Elt F)),
  nullary main_cst_2 (constant S_ .f32 0x00000000#32),
  binary main_v31 main_cst_2 main_v32 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
  unary main_v32 main_v33 (broadcastInDim S16384x1 ![0] bcast_S16384_S16384x1_0 : (⟨S16384, .f32⟩ : BufTy).Contents (Elt F) → (⟨S16384x1, .f32⟩ : BufTy).Contents (Elt F)),
  unary main_arg15 main_v34 ((transpose S32x8192 [1, 0] · transposes_S8192x32_S32x8192_1_0) : (⟨S8192x32, .f32⟩ : BufTy).Contents (Elt F) → (⟨S32x8192, .f32⟩ : BufTy).Contents (Elt F)),
  binary main_v30 main_v34 main_v35 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
  nullary main_cst_3 (constant S_ .f32 0x40000000#32),
  unary main_cst_3 main_v36 (broadcastInDim S16384x8192 ![] bcast_S_S16384x8192 : (⟨S_, .f32⟩ : BufTy).Contents (Elt F) → (⟨S16384x8192, .f32⟩ : BufTy).Contents (Elt F)),
  binary main_v36 main_v35 main_v37 (mulf : (⟨S16384x8192, .f32⟩ : BufTy).Contents (Elt F) → (⟨S16384x8192, .f32⟩ : BufTy).Contents (Elt F) → (⟨S16384x8192, .f32⟩ : BufTy).Contents (Elt F)),
  unary main_v33 main_v38 (broadcastInDim S16384x8192 ![0, 1] bcast_S16384x1_S16384x8192_0_1 : (⟨S16384x1, .f32⟩ : BufTy).Contents (Elt F) → (⟨S16384x8192, .f32⟩ : BufTy).Contents (Elt F)),
  binary main_v38 main_v37 main_v39 (subf : (⟨S16384x8192, .f32⟩ : BufTy).Contents (Elt F) → (⟨S16384x8192, .f32⟩ : BufTy).Contents (Elt F) → (⟨S16384x8192, .f32⟩ : BufTy).Contents (Elt F)),
  binary main_arg15 main_arg15 main_v40 (mulf : (⟨S8192x32, .f32⟩ : BufTy).Contents (Elt F) → (⟨S8192x32, .f32⟩ : BufTy).Contents (Elt F) → (⟨S8192x32, .f32⟩ : BufTy).Contents (Elt F)),
  nullary main_cst_4 (constant S_ .f32 0x00000000#32),
  binary main_v40 main_cst_4 main_v41 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
  unary main_v41 main_v42 (broadcastInDim S1x8192 ![1] bcast_S8192_S1x8192_1 : (⟨S8192, .f32⟩ : BufTy).Contents (Elt F) → (⟨S1x8192, .f32⟩ : BufTy).Contents (Elt F)),
  unary main_v42 main_v43 (broadcastInDim S16384x8192 ![0, 1] bcast_S1x8192_S16384x8192_0_1 : (⟨S1x8192, .f32⟩ : BufTy).Contents (Elt F) → (⟨S16384x8192, .f32⟩ : BufTy).Contents (Elt F)),
  binary main_v39 main_v43 main_v44 (addf : (⟨S16384x8192, .f32⟩ : BufTy).Contents (Elt F) → (⟨S16384x8192, .f32⟩ : BufTy).Contents (Elt F) → (⟨S16384x8192, .f32⟩ : BufTy).Contents (Elt F)),
  TRef.nullary (TRef.of (T := ⟨S16384x8192, .i32⟩) main_call4_v0) (iotaInDim S16384x8192 32 1),
  TRef.nullary (TRef.of (T := ⟨S_, .f32⟩) main_call4_cst) (constant S_ .f32 0x7F800000#32),
  TRef.nullary (TRef.of (T := ⟨S_, .i32⟩) main_call4_c) (constantI S_ 32 0#32),
  TRef.quaternary (TRef.of (T := ⟨S16384x8192, .f32⟩) main_v44) (TRef.of (T := ⟨S16384x8192, .i32⟩) main_call4_v0) (TRef.of (T := ⟨S_, .f32⟩) main_call4_cst) (TRef.of (T := ⟨S_, .i32⟩) main_call4_c) (TRef.of (T := ⟨S16384, .f32⟩) main_call4_v1_0) (fun x y u v j => (Host.argReduce reducer_argmin_f32_i32 x y u v reducesTo_S16384x8192_S16384_d1 h_S_ j).1),
  TRef.quaternary (TRef.of (T := ⟨S16384x8192, .f32⟩) main_v44) (TRef.of (T := ⟨S16384x8192, .i32⟩) main_call4_v0) (TRef.of (T := ⟨S_, .f32⟩) main_call4_cst) (TRef.of (T := ⟨S_, .i32⟩) main_call4_c) (TRef.of (T := ⟨S16384, .i32⟩) main_v45) (fun x y u v j => (Host.argReduce reducer_argmin_f32_i32 x y u v reducesTo_S16384x8192_S16384_d1 h_S_ j).2),
  TRef.nullary (TRef.of (T := ⟨S_, .i32⟩) main_call5_c) (constantI S_ 32 0#32),
  TRef.unary (TRef.of (T := ⟨S_, .i32⟩) main_call5_c) (TRef.of (T := ⟨S16384, .i32⟩) main_call5_v0) (broadcastInDim S16384 ![] bcast_S_S16384),
  TRef.binary (TRef.of (T := ⟨S16384, .i32⟩) main_v45) (TRef.of (T := ⟨S16384, .i32⟩) main_call5_v0) (TRef.of (T := ⟨S16384, .i1⟩) main_call5_v1) (cmpi .slt),
  TRef.nullary (TRef.of (T := ⟨S_, .i32⟩) main_call5_c_0) (constantI S_ 32 8192#32),
  TRef.unary (TRef.of (T := ⟨S_, .i32⟩) main_call5_c_0) (TRef.of (T := ⟨S16384, .i32⟩) main_call5_v2) (broadcastInDim S16384 ![] bcast_S_S16384),
  TRef.binary (TRef.of (T := ⟨S16384, .i32⟩) main_v45) (TRef.of (T := ⟨S16384, .i32⟩) main_call5_v2) (TRef.of (T := ⟨S16384, .i32⟩) main_call5_v3) addi,
  TRef.ternary (TRef.of (T := ⟨S16384, .i1⟩) main_call5_v1) (TRef.of (T := ⟨S16384, .i32⟩) main_call5_v3) (TRef.of (T := ⟨S16384, .i32⟩) main_v45) (TRef.of (T := ⟨S16384, .i32⟩) main_call5_v4) select,
  TRef.unary (TRef.of (T := ⟨S16384, .i32⟩) main_call5_v4) (TRef.of (T := ⟨S16384x1, .i32⟩) main_call5_v5) (broadcastInDim S16384x1 ![0] bcast_S16384_S16384x1_0),
  TRef.nullary (TRef.of (T := ⟨S1, .i32⟩) main_call5_c_1) (constantI S1 32 8191#32),
  TRef.nullary (TRef.of (T := ⟨S_, .i32⟩) main_call5_c_2) (constantI S_ 32 0#32),
  TRef.unary (TRef.of (T := ⟨S_, .i32⟩) main_call5_c_2) (TRef.of (T := ⟨S16384x1, .i32⟩) main_call5_v6) (broadcastInDim S16384x1 ![] bcast_S_S16384x1),
  TRef.binary (TRef.of (T := ⟨S16384x1, .i32⟩) main_call5_v5) (TRef.of (T := ⟨S16384x1, .i32⟩) main_call5_v6) (TRef.of (T := ⟨S16384x1, .i1⟩) main_call5_v7) (cmpi .sge),
  TRef.unary (TRef.of (T := ⟨S1, .i32⟩) main_call5_c_1) (TRef.of (T := ⟨S1x1, .i32⟩) main_call5_v8) (broadcastInDim S1x1 ![1] bcast_S1_S1x1_1),
  TRef.unary (TRef.of (T := ⟨S1x1, .i32⟩) main_call5_v8) (TRef.of (T := ⟨S16384x1, .i32⟩) main_call5_v9) (broadcastInDim S16384x1 ![0, 1] bcast_S1x1_S16384x1_0_1),
  TRef.binary (TRef.of (T := ⟨S16384x1, .i32⟩) main_call5_v5) (TRef.of (T := ⟨S16384x1, .i32⟩) main_call5_v9) (TRef.of (T := ⟨S16384x1, .i1⟩) main_call5_v10) (cmpi .sle),
  TRef.binary (TRef.of (T := ⟨S16384x1, .i1⟩) main_call5_v7) (TRef.of (T := ⟨S16384x1, .i1⟩) main_call5_v10) (TRef.of (T := ⟨S16384x1, .i1⟩) main_call5_v11) andi,
  TRef.nullary (TRef.of (T := ⟨S_, .i1⟩) main_call5_c_3) (constantI S_ 1 1#1),
  TRef.binary (TRef.of (T := ⟨S16384x1, .i1⟩) main_call5_v11) (TRef.of (T := ⟨S_, .i1⟩) main_call5_c_3) (TRef.of (T := ⟨S16384, .i1⟩) main_call5_v12) (fun x v => Host.reduce IntOp.andi x v reducesTo_S16384x1_S16384_d1 h_S_),
  TRef.binary (TRef.of (T := ⟨S8192x32, .f32⟩) main_arg15) (TRef.of (T := ⟨S16384x1, .i32⟩) main_call5_v5) (TRef.of (T := ⟨S16384x32, .f32⟩) main_call5_v13) (fun x i => Host.gather gather_S8192x32_S16384x1_S16384x32_1_0_n_n_0_1_132 x i),
  TRef.unary (TRef.of (T := ⟨S16384, .i1⟩) main_call5_v12) (TRef.of (T := ⟨S16384x32, .i1⟩) main_call5_v14) (broadcastInDim S16384x32 ![0] bcast_S16384_S16384x32_0),
  TRef.nullary (TRef.of (T := ⟨S_, .f32⟩) main_call5_cst) (constant S_ .f32 0x7FC00000#32),
  TRef.unary (TRef.of (T := ⟨S_, .f32⟩) main_call5_cst) (TRef.of (T := ⟨S16384x32, .f32⟩) main_call5_v15) (broadcastInDim S16384x32 ![] bcast_S_S16384x32),
  TRef.ternary (TRef.of (T := ⟨S16384x32, .i1⟩) main_call5_v14) (TRef.of (T := ⟨S16384x32, .f32⟩) main_call5_v13) (TRef.of (T := ⟨S16384x32, .f32⟩) main_call5_v15) (TRef.of (T := ⟨S16384x32, .f32⟩) main_v46) select,
  binary main_v30 main_v46 main_v47 (subf : (⟨S16384x32, .f32⟩ : BufTy).Contents (Elt F) → (⟨S16384x32, .f32⟩ : BufTy).Contents (Elt F) → (⟨S16384x32, .f32⟩ : BufTy).Contents (Elt F))]

/-- The buffers `level1Ops` writes, in order. -/
abbrev level1Dst : List (Ref sig .tc) := [main_v31, main_cst_2, main_v32, main_v33, main_v34, main_v35, main_cst_3, main_v36, main_v37, main_v38, main_v39, main_v40, main_cst_4, main_v41, main_v42, main_v43, main_v44, main_call4_v0, main_call4_cst, main_call4_c, main_call4_v1_0, main_v45, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v46, main_v47]

/-- The third level's operations, the part that lies in @main's first half. -/
abbrev level2aOps : List (HloOp τ sig (Elt F)) := [
  binary main_v47 main_v47 main_v48 (mulf : (⟨S16384x32, .f32⟩ : BufTy).Contents (Elt F) → (⟨S16384x32, .f32⟩ : BufTy).Contents (Elt F) → (⟨S16384x32, .f32⟩ : BufTy).Contents (Elt F)),
  nullary main_cst_5 (constant S_ .f32 0x00000000#32),
  binary main_v48 main_cst_5 main_v49 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
  unary main_v49 main_v50 (broadcastInDim S16384x1 ![0] bcast_S16384_S16384x1_0 : (⟨S16384, .f32⟩ : BufTy).Contents (Elt F) → (⟨S16384x1, .f32⟩ : BufTy).Contents (Elt F)),
  unary main_arg16 main_v51 ((transpose S32x8192 [1, 0] · transposes_S8192x32_S32x8192_1_0) : (⟨S8192x32, .f32⟩ : BufTy).Contents (Elt F) → (⟨S32x8192, .f32⟩ : BufTy).Contents (Elt F)),
  binary main_v47 main_v51 main_v52 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F))]

/-- The buffers `level2aOps` writes, in order. -/
abbrev level2aDst : List (Ref sig .tc) := [main_v48, main_cst_5, main_v49, main_v50, main_v51, main_v52]

/-- The third level's operations, the part that lies in @main's second half. -/
abbrev level2bOps : List (HloOp τ sig (Elt F)) := [
  nullary main_cst_6 (constant S_ .f32 0x40000000#32),
  unary main_cst_6 main_v53 (broadcastInDim S16384x8192 ![] bcast_S_S16384x8192 : (⟨S_, .f32⟩ : BufTy).Contents (Elt F) → (⟨S16384x8192, .f32⟩ : BufTy).Contents (Elt F)),
  binary main_v53 main_v52 main_v54 (mulf : (⟨S16384x8192, .f32⟩ : BufTy).Contents (Elt F) → (⟨S16384x8192, .f32⟩ : BufTy).Contents (Elt F) → (⟨S16384x8192, .f32⟩ : BufTy).Contents (Elt F)),
  unary main_v50 main_v55 (broadcastInDim S16384x8192 ![0, 1] bcast_S16384x1_S16384x8192_0_1 : (⟨S16384x1, .f32⟩ : BufTy).Contents (Elt F) → (⟨S16384x8192, .f32⟩ : BufTy).Contents (Elt F)),
  binary main_v55 main_v54 main_v56 (subf : (⟨S16384x8192, .f32⟩ : BufTy).Contents (Elt F) → (⟨S16384x8192, .f32⟩ : BufTy).Contents (Elt F) → (⟨S16384x8192, .f32⟩ : BufTy).Contents (Elt F)),
  binary main_arg16 main_arg16 main_v57 (mulf : (⟨S8192x32, .f32⟩ : BufTy).Contents (Elt F) → (⟨S8192x32, .f32⟩ : BufTy).Contents (Elt F) → (⟨S8192x32, .f32⟩ : BufTy).Contents (Elt F)),
  nullary main_cst_7 (constant S_ .f32 0x00000000#32),
  binary main_v57 main_cst_7 main_v58 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
  unary main_v58 main_v59 (broadcastInDim S1x8192 ![1] bcast_S8192_S1x8192_1 : (⟨S8192, .f32⟩ : BufTy).Contents (Elt F) → (⟨S1x8192, .f32⟩ : BufTy).Contents (Elt F)),
  unary main_v59 main_v60 (broadcastInDim S16384x8192 ![0, 1] bcast_S1x8192_S16384x8192_0_1 : (⟨S1x8192, .f32⟩ : BufTy).Contents (Elt F) → (⟨S16384x8192, .f32⟩ : BufTy).Contents (Elt F)),
  binary main_v56 main_v60 main_v61 (addf : (⟨S16384x8192, .f32⟩ : BufTy).Contents (Elt F) → (⟨S16384x8192, .f32⟩ : BufTy).Contents (Elt F) → (⟨S16384x8192, .f32⟩ : BufTy).Contents (Elt F)),
  TRef.nullary (TRef.of (T := ⟨S16384x8192, .i32⟩) main_call6_v0) (iotaInDim S16384x8192 32 1),
  TRef.nullary (TRef.of (T := ⟨S_, .f32⟩) main_call6_cst) (constant S_ .f32 0x7F800000#32),
  TRef.nullary (TRef.of (T := ⟨S_, .i32⟩) main_call6_c) (constantI S_ 32 0#32),
  TRef.quaternary (TRef.of (T := ⟨S16384x8192, .f32⟩) main_v61) (TRef.of (T := ⟨S16384x8192, .i32⟩) main_call6_v0) (TRef.of (T := ⟨S_, .f32⟩) main_call6_cst) (TRef.of (T := ⟨S_, .i32⟩) main_call6_c) (TRef.of (T := ⟨S16384, .f32⟩) main_call6_v1_0) (fun x y u v j => (Host.argReduce reducer_argmin_f32_i32 x y u v reducesTo_S16384x8192_S16384_d1 h_S_ j).1),
  TRef.quaternary (TRef.of (T := ⟨S16384x8192, .f32⟩) main_v61) (TRef.of (T := ⟨S16384x8192, .i32⟩) main_call6_v0) (TRef.of (T := ⟨S_, .f32⟩) main_call6_cst) (TRef.of (T := ⟨S_, .i32⟩) main_call6_c) (TRef.of (T := ⟨S16384, .i32⟩) main_v62) (fun x y u v j => (Host.argReduce reducer_argmin_f32_i32 x y u v reducesTo_S16384x8192_S16384_d1 h_S_ j).2),
  TRef.nullary (TRef.of (T := ⟨S_, .i32⟩) main_call7_c) (constantI S_ 32 0#32),
  TRef.unary (TRef.of (T := ⟨S_, .i32⟩) main_call7_c) (TRef.of (T := ⟨S16384, .i32⟩) main_call7_v0) (broadcastInDim S16384 ![] bcast_S_S16384),
  TRef.binary (TRef.of (T := ⟨S16384, .i32⟩) main_v62) (TRef.of (T := ⟨S16384, .i32⟩) main_call7_v0) (TRef.of (T := ⟨S16384, .i1⟩) main_call7_v1) (cmpi .slt),
  TRef.nullary (TRef.of (T := ⟨S_, .i32⟩) main_call7_c_0) (constantI S_ 32 8192#32),
  TRef.unary (TRef.of (T := ⟨S_, .i32⟩) main_call7_c_0) (TRef.of (T := ⟨S16384, .i32⟩) main_call7_v2) (broadcastInDim S16384 ![] bcast_S_S16384),
  TRef.binary (TRef.of (T := ⟨S16384, .i32⟩) main_v62) (TRef.of (T := ⟨S16384, .i32⟩) main_call7_v2) (TRef.of (T := ⟨S16384, .i32⟩) main_call7_v3) addi,
  TRef.ternary (TRef.of (T := ⟨S16384, .i1⟩) main_call7_v1) (TRef.of (T := ⟨S16384, .i32⟩) main_call7_v3) (TRef.of (T := ⟨S16384, .i32⟩) main_v62) (TRef.of (T := ⟨S16384, .i32⟩) main_call7_v4) select,
  TRef.unary (TRef.of (T := ⟨S16384, .i32⟩) main_call7_v4) (TRef.of (T := ⟨S16384x1, .i32⟩) main_call7_v5) (broadcastInDim S16384x1 ![0] bcast_S16384_S16384x1_0),
  TRef.nullary (TRef.of (T := ⟨S1, .i32⟩) main_call7_c_1) (constantI S1 32 8191#32),
  TRef.nullary (TRef.of (T := ⟨S_, .i32⟩) main_call7_c_2) (constantI S_ 32 0#32),
  TRef.unary (TRef.of (T := ⟨S_, .i32⟩) main_call7_c_2) (TRef.of (T := ⟨S16384x1, .i32⟩) main_call7_v6) (broadcastInDim S16384x1 ![] bcast_S_S16384x1),
  TRef.binary (TRef.of (T := ⟨S16384x1, .i32⟩) main_call7_v5) (TRef.of (T := ⟨S16384x1, .i32⟩) main_call7_v6) (TRef.of (T := ⟨S16384x1, .i1⟩) main_call7_v7) (cmpi .sge),
  TRef.unary (TRef.of (T := ⟨S1, .i32⟩) main_call7_c_1) (TRef.of (T := ⟨S1x1, .i32⟩) main_call7_v8) (broadcastInDim S1x1 ![1] bcast_S1_S1x1_1),
  TRef.unary (TRef.of (T := ⟨S1x1, .i32⟩) main_call7_v8) (TRef.of (T := ⟨S16384x1, .i32⟩) main_call7_v9) (broadcastInDim S16384x1 ![0, 1] bcast_S1x1_S16384x1_0_1),
  TRef.binary (TRef.of (T := ⟨S16384x1, .i32⟩) main_call7_v5) (TRef.of (T := ⟨S16384x1, .i32⟩) main_call7_v9) (TRef.of (T := ⟨S16384x1, .i1⟩) main_call7_v10) (cmpi .sle),
  TRef.binary (TRef.of (T := ⟨S16384x1, .i1⟩) main_call7_v7) (TRef.of (T := ⟨S16384x1, .i1⟩) main_call7_v10) (TRef.of (T := ⟨S16384x1, .i1⟩) main_call7_v11) andi,
  TRef.nullary (TRef.of (T := ⟨S_, .i1⟩) main_call7_c_3) (constantI S_ 1 1#1),
  TRef.binary (TRef.of (T := ⟨S16384x1, .i1⟩) main_call7_v11) (TRef.of (T := ⟨S_, .i1⟩) main_call7_c_3) (TRef.of (T := ⟨S16384, .i1⟩) main_call7_v12) (fun x v => Host.reduce IntOp.andi x v reducesTo_S16384x1_S16384_d1 h_S_),
  TRef.binary (TRef.of (T := ⟨S8192x32, .f32⟩) main_arg16) (TRef.of (T := ⟨S16384x1, .i32⟩) main_call7_v5) (TRef.of (T := ⟨S16384x32, .f32⟩) main_call7_v13) (fun x i => Host.gather gather_S8192x32_S16384x1_S16384x32_1_0_n_n_0_1_132 x i),
  TRef.unary (TRef.of (T := ⟨S16384, .i1⟩) main_call7_v12) (TRef.of (T := ⟨S16384x32, .i1⟩) main_call7_v14) (broadcastInDim S16384x32 ![0] bcast_S16384_S16384x32_0),
  TRef.nullary (TRef.of (T := ⟨S_, .f32⟩) main_call7_cst) (constant S_ .f32 0x7FC00000#32),
  TRef.unary (TRef.of (T := ⟨S_, .f32⟩) main_call7_cst) (TRef.of (T := ⟨S16384x32, .f32⟩) main_call7_v15) (broadcastInDim S16384x32 ![] bcast_S_S16384x32),
  TRef.ternary (TRef.of (T := ⟨S16384x32, .i1⟩) main_call7_v14) (TRef.of (T := ⟨S16384x32, .f32⟩) main_call7_v13) (TRef.of (T := ⟨S16384x32, .f32⟩) main_call7_v15) (TRef.of (T := ⟨S16384x32, .f32⟩) main_v63) select,
  binary main_v47 main_v63 main_v64 (subf : (⟨S16384x32, .f32⟩ : BufTy).Contents (Elt F) → (⟨S16384x32, .f32⟩ : BufTy).Contents (Elt F) → (⟨S16384x32, .f32⟩ : BufTy).Contents (Elt F))]

/-- The buffers `level2bOps` writes, in order. -/
abbrev level2bDst : List (Ref sig .tc) := [main_cst_6, main_v53, main_v54, main_v55, main_v56, main_v57, main_cst_7, main_v58, main_v59, main_v60, main_v61, main_call6_v0, main_call6_cst, main_call6_c, main_call6_v1_0, main_v62, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v63, main_v64]

/-- The stacking of embeddings and residuals, the decoder and the losses, down to the result `main_v102`. -/
abbrev decOps : List (HloOp τ sig (Elt F)) := [
  unary main_v29 main_v65 (broadcastInDim S16384x32x1 ![0, 1] bcast_S16384x32_S16384x32x1_0_1 : (⟨S16384x32, .f32⟩ : BufTy).Contents (Elt F) → (⟨S16384x32x1, .f32⟩ : BufTy).Contents (Elt F)),
  unary main_v46 main_v66 (broadcastInDim S16384x32x1 ![0, 1] bcast_S16384x32_S16384x32x1_0_1 : (⟨S16384x32, .f32⟩ : BufTy).Contents (Elt F) → (⟨S16384x32x1, .f32⟩ : BufTy).Contents (Elt F)),
  unary main_v63 main_v67 (broadcastInDim S16384x32x1 ![0, 1] bcast_S16384x32_S16384x32x1_0_1 : (⟨S16384x32, .f32⟩ : BufTy).Contents (Elt F) → (⟨S16384x32x1, .f32⟩ : BufTy).Contents (Elt F)),
  nary ![main_v65, main_v66, main_v67] main_v68 (fun u => stack3 (F := F) (u 0) (u 1) (u 2)),
  unary main_v13 main_v69 (broadcastInDim S16384x32x1 ![0, 1] bcast_S16384x32_S16384x32x1_0_1 : (⟨S16384x32, .f32⟩ : BufTy).Contents (Elt F) → (⟨S16384x32x1, .f32⟩ : BufTy).Contents (Elt F)),
  unary main_v30 main_v70 (broadcastInDim S16384x32x1 ![0, 1] bcast_S16384x32_S16384x32x1_0_1 : (⟨S16384x32, .f32⟩ : BufTy).Contents (Elt F) → (⟨S16384x32x1, .f32⟩ : BufTy).Contents (Elt F)),
  unary main_v47 main_v71 (broadcastInDim S16384x32x1 ![0, 1] bcast_S16384x32_S16384x32x1_0_1 : (⟨S16384x32, .f32⟩ : BufTy).Contents (Elt F) → (⟨S16384x32x1, .f32⟩ : BufTy).Contents (Elt F)),
  nary ![main_v69, main_v70, main_v71] main_v72 (fun u => stack3 (F := F) (u 0) (u 1) (u 2)),
  nullary main_cst_8 (constant S_ .f32 0x00000000#32),
  binary main_v68 main_cst_8 main_v73 ((fun x v => Host.reduceAdd x v reducesTo_S16384x32x3_S16384x32_d2 h_S_) : (⟨S16384x32x3, .f32⟩ : BufTy).Contents (Elt F) → (⟨S_, .f32⟩ : BufTy).Contents (Elt F) → (⟨S16384x32, .f32⟩ : BufTy).Contents (Elt F)),
  binary main_v73 main_arg8 main_v74 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
  unary main_arg9 main_v75 (broadcastInDim S1x512 ![1] bcast_S512_S1x512_1 : (⟨S512, .f32⟩ : BufTy).Contents (Elt F) → (⟨S1x512, .f32⟩ : BufTy).Contents (Elt F)),
  unary main_v75 main_v76 (broadcastInDim S16384x512 ![0, 1] bcast_S1x512_S16384x512_0_1 : (⟨S1x512, .f32⟩ : BufTy).Contents (Elt F) → (⟨S16384x512, .f32⟩ : BufTy).Contents (Elt F)),
  binary main_v74 main_v76 main_v77 (addf : (⟨S16384x512, .f32⟩ : BufTy).Contents (Elt F) → (⟨S16384x512, .f32⟩ : BufTy).Contents (Elt F) → (⟨S16384x512, .f32⟩ : BufTy).Contents (Elt F)),
  TRef.nullary (TRef.of (T := ⟨S_, .f32⟩) main_call8_cst) (constant S_ .f32 0x00000000#32),
  TRef.unary (TRef.of (T := ⟨S_, .f32⟩) main_call8_cst) (TRef.of (T := ⟨S16384x512, .f32⟩) main_call8_v0) (broadcastInDim S16384x512 ![] bcast_S_S16384x512),
  TRef.binary (TRef.of (T := ⟨S16384x512, .f32⟩) main_v77) (TRef.of (T := ⟨S16384x512, .f32⟩) main_call8_v0) (TRef.of (T := ⟨S16384x512, .f32⟩) main_v78) maximumf,
  binary main_v78 main_arg10 main_v79 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
  unary main_arg11 main_v80 (broadcastInDim S1x256 ![1] bcast_S256_S1x256_1 : (⟨S256, .f32⟩ : BufTy).Contents (Elt F) → (⟨S1x256, .f32⟩ : BufTy).Contents (Elt F)),
  unary main_v80 main_v81 (broadcastInDim S16384x256 ![0, 1] bcast_S1x256_S16384x256_0_1 : (⟨S1x256, .f32⟩ : BufTy).Contents (Elt F) → (⟨S16384x256, .f32⟩ : BufTy).Contents (Elt F)),
  binary main_v79 main_v81 main_v82 (addf : (⟨S16384x256, .f32⟩ : BufTy).Contents (Elt F) → (⟨S16384x256, .f32⟩ : BufTy).Contents (Elt F) → (⟨S16384x256, .f32⟩ : BufTy).Contents (Elt F)),
  TRef.nullary (TRef.of (T := ⟨S_, .f32⟩) main_call9_cst) (constant S_ .f32 0x00000000#32),
  TRef.unary (TRef.of (T := ⟨S_, .f32⟩) main_call9_cst) (TRef.of (T := ⟨S16384x256, .f32⟩) main_call9_v0) (broadcastInDim S16384x256 ![] bcast_S_S16384x256),
  TRef.binary (TRef.of (T := ⟨S16384x256, .f32⟩) main_v82) (TRef.of (T := ⟨S16384x256, .f32⟩) main_call9_v0) (TRef.of (T := ⟨S16384x256, .f32⟩) main_v83) maximumf,
  binary main_v83 main_arg12 main_v84 ((fun l r => Host.dotGeneral dot_S16384x256_S256x768_S16384x768_1_0_0_1_n_n none l r) : (⟨S16384x256, .f32⟩ : BufTy).Contents (Elt F) → (⟨S256x768, .f32⟩ : BufTy).Contents (Elt F) → (⟨S16384x768, .f32⟩ : BufTy).Contents (Elt F)),
  unary main_arg13 main_v85 (broadcastInDim S1x768 ![1] bcast_S768_S1x768_1 : (⟨S768, .f32⟩ : BufTy).Contents (Elt F) → (⟨S1x768, .f32⟩ : BufTy).Contents (Elt F)),
  unary main_v85 main_v86 (broadcastInDim S16384x768 ![0, 1] bcast_S1x768_S16384x768_0_1 : (⟨S1x768, .f32⟩ : BufTy).Contents (Elt F) → (⟨S16384x768, .f32⟩ : BufTy).Contents (Elt F)),
  binary main_v84 main_v86 main_v87 (addf : (⟨S16384x768, .f32⟩ : BufTy).Contents (Elt F) → (⟨S16384x768, .f32⟩ : BufTy).Contents (Elt F) → (⟨S16384x768, .f32⟩ : BufTy).Contents (Elt F)),
  binary main_v87 main_arg0 main_v88 (subf : (⟨S16384x768, .f32⟩ : BufTy).Contents (Elt F) → (⟨S16384x768, .f32⟩ : BufTy).Contents (Elt F) → (⟨S16384x768, .f32⟩ : BufTy).Contents (Elt F)),
  binary main_v88 main_v88 main_v89 (mulf : (⟨S16384x768, .f32⟩ : BufTy).Contents (Elt F) → (⟨S16384x768, .f32⟩ : BufTy).Contents (Elt F) → (⟨S16384x768, .f32⟩ : BufTy).Contents (Elt F)),
  nullary main_cst_9 (constant S_ .f32 0x00000000#32),
  binary main_v89 main_cst_9 main_v90 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
  binary main_v72 main_v68 main_v91 (subf : (⟨S16384x32x3, .f32⟩ : BufTy).Contents (Elt F) → (⟨S16384x32x3, .f32⟩ : BufTy).Contents (Elt F) → (⟨S16384x32x3, .f32⟩ : BufTy).Contents (Elt F)),
  binary main_v91 main_v91 main_v92 (mulf : (⟨S16384x32x3, .f32⟩ : BufTy).Contents (Elt F) → (⟨S16384x32x3, .f32⟩ : BufTy).Contents (Elt F) → (⟨S16384x32x3, .f32⟩ : BufTy).Contents (Elt F)),
  nullary main_cst_10 (constant S_ .f32 0x00000000#32),
  binary main_v92 main_cst_10 main_v93 ((fun x v => Host.reduceAdd x v reducesTo_S16384x32x3_S16384_d2_1 h_S_) : (⟨S16384x32x3, .f32⟩ : BufTy).Contents (Elt F) → (⟨S_, .f32⟩ : BufTy).Contents (Elt F) → (⟨S16384, .f32⟩ : BufTy).Contents (Elt F)),
  binary main_v72 main_v68 main_v94 (subf : (⟨S16384x32x3, .f32⟩ : BufTy).Contents (Elt F) → (⟨S16384x32x3, .f32⟩ : BufTy).Contents (Elt F) → (⟨S16384x32x3, .f32⟩ : BufTy).Contents (Elt F)),
  binary main_v94 main_v94 main_v95 (mulf : (⟨S16384x32x3, .f32⟩ : BufTy).Contents (Elt F) → (⟨S16384x32x3, .f32⟩ : BufTy).Contents (Elt F) → (⟨S16384x32x3, .f32⟩ : BufTy).Contents (Elt F)),
  nullary main_cst_11 (constant S_ .f32 0x00000000#32),
  binary main_v95 main_cst_11 main_v96 ((fun x v => Host.reduceAdd x v reducesTo_S16384x32x3_S16384_d2_1 h_S_) : (⟨S16384x32x3, .f32⟩ : BufTy).Contents (Elt F) → (⟨S_, .f32⟩ : BufTy).Contents (Elt F) → (⟨S16384, .f32⟩ : BufTy).Contents (Elt F)),
  nullary main_cst_12 (constant S_ .f32 0x3E800000#32),
  unary main_cst_12 main_v97 (broadcastInDim S16384 ![] bcast_S_S16384 : (⟨S_, .f32⟩ : BufTy).Contents (Elt F) → (⟨S16384, .f32⟩ : BufTy).Contents (Elt F)),
  binary main_v97 main_v96 main_v98 (mulf : (⟨S16384, .f32⟩ : BufTy).Contents (Elt F) → (⟨S16384, .f32⟩ : BufTy).Contents (Elt F) → (⟨S16384, .f32⟩ : BufTy).Contents (Elt F)),
  binary main_v93 main_v98 main_v99 (addf : (⟨S16384, .f32⟩ : BufTy).Contents (Elt F) → (⟨S16384, .f32⟩ : BufTy).Contents (Elt F) → (⟨S16384, .f32⟩ : BufTy).Contents (Elt F)),
  binary main_v90 main_v99 main_v100 (addf : (⟨S16384, .f32⟩ : BufTy).Contents (Elt F) → (⟨S16384, .f32⟩ : BufTy).Contents (Elt F) → (⟨S16384, .f32⟩ : BufTy).Contents (Elt F)),
  nullary main_cst_13 (constant S_ .f32 0x00000000#32),
  binary main_v100 main_cst_13 main_v101 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
  nullary main_cst_14 (constant S_ .f32 0x46800000#32),
  binary main_v101 main_cst_14 main_v102 (Host.divf : (⟨S_, .f32⟩ : BufTy).Contents (Elt F) → (⟨S_, .f32⟩ : BufTy).Contents (Elt F) → (⟨S_, .f32⟩ : BufTy).Contents (Elt F))]

/-- The buffers `decOps` writes, in order. -/
abbrev decDst : List (Ref sig .tc) := [main_v65, main_v66, main_v67, main_v68, main_v69, main_v70, main_v71, main_v72, main_cst_8, main_v73, main_v74, main_v75, main_v76, main_v77, main_call8_cst, main_call8_v0, main_v78, main_v79, main_v80, main_v81, main_v82, main_call9_cst, main_call9_v0, main_v83, main_v84, main_v85, main_v86, main_v87, main_v88, main_v89, main_cst_9, main_v90, main_v91, main_v92, main_cst_10, main_v93, main_v94, main_v95, main_cst_11, main_v96, main_cst_12, main_v97, main_v98, main_v99, main_v100, main_cst_13, main_v101, main_cst_14, main_v102]

/-- @main's first half. -/
def half0 : List (HloOp τ sig (Elt F)) := encOps ++ (level0Ops ++ (level1Ops ++ level2aOps))

/-- @main's second half. -/
def half1 : List (HloOp τ sig (Elt F)) := level2bOps ++ decOps

/-- All of @main's operations. -/
def ops : List (HloOp τ sig (Elt F)) := half0 ++ half1

set_option maxRecDepth 8192 in
set_option maxHeartbeats 4000000 in
/-- @main's first half runs these operations one after another. -/
theorem half0_eq (c : Dev nD) : main_part0 (F := F) c = seq half0 := rfl

set_option maxRecDepth 8192 in
set_option maxHeartbeats 4000000 in
/-- @main's second half runs these operations one after another. -/
theorem half1_eq (c : Dev nD) : main_part1 (F := F) c = seq half1 := rfl

/-- @main runs these operations one after another. -/
theorem main_eq (c : Dev nD) : main (F := F) c = seq ops := by
  simp only [ops, seq_append, ← half0_eq c, ← half1_eq c]
  rfl

/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide

/-- `encOps` writes the listed buffers only. -/
theorem encOps_writes : (encOps : List (HloOp τ sig (Elt F))).Forall fun op =>
    op.writes ⊆ (encDst.map (Proc.devRef (τ := τ) .tc)).toFinset := forall_writes_sub_of_map rfl

/-- `encOps` touches buffers of the one core only. -/
theorem encOps_sub : (encOps : List (HloOp τ sig (Elt F))).Forall fun op => op.bufs ⊆ tcRefs τ sig :=
  ⟨binary_bufs_sub .., unary_bufs_sub .., unary_bufs_sub .., binary_bufs_sub .., nullary_bufs_sub ..,
    unary_bufs_sub .., binary_bufs_sub .., binary_bufs_sub .., unary_bufs_sub .., unary_bufs_sub ..,
    binary_bufs_sub .., nullary_bufs_sub .., unary_bufs_sub .., binary_bufs_sub .., binary_bufs_sub ..,
    unary_bufs_sub .., unary_bufs_sub .., binary_bufs_sub ..⟩

/-- `encOps` asks for no fresh buffer. -/
theorem encOps_fresh : (encOps : List (HloOp τ sig (Elt F))).Forall fun op => op.fresh = ∅ := forall_fresh_of_map rfl

/-- `level0Ops` writes the listed buffers only. -/
theorem level0Ops_writes : (level0Ops : List (HloOp τ sig (Elt F))).Forall fun op =>
    op.writes ⊆ (level0Dst.map (Proc.devRef (τ := τ) .tc)).toFinset := forall_writes_sub_of_map rfl

/-- `level0Ops` touches buffers of the one core only. -/
theorem level0Ops_sub : (level0Ops : List (HloOp τ sig (Elt F))).Forall fun op => op.bufs ⊆ tcRefs τ sig :=
  ⟨binary_bufs_sub .., nullary_bufs_sub .., binary_bufs_sub .., unary_bufs_sub .., unary_bufs_sub ..,
    binary_bufs_sub .., nullary_bufs_sub .., unary_bufs_sub .., binary_bufs_sub .., unary_bufs_sub ..,
    binary_bufs_sub .., binary_bufs_sub .., nullary_bufs_sub .., binary_bufs_sub .., unary_bufs_sub ..,
    unary_bufs_sub .., binary_bufs_sub .., nullary_bufs_sub .., nullary_bufs_sub .., nullary_bufs_sub ..,
    quaternary_bufs_sub .., quaternary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub ..⟩

/-- `level0Ops` asks for no fresh buffer. -/
theorem level0Ops_fresh : (level0Ops : List (HloOp τ sig (Elt F))).Forall fun op => op.fresh = ∅ := forall_fresh_of_map rfl

/-- `level1Ops` writes the listed buffers only. -/
theorem level1Ops_writes : (level1Ops : List (HloOp τ sig (Elt F))).Forall fun op =>
    op.writes ⊆ (level1Dst.map (Proc.devRef (τ := τ) .tc)).toFinset := forall_writes_sub_of_map rfl

/-- `level1Ops` touches buffers of the one core only. -/
theorem level1Ops_sub : (level1Ops : List (HloOp τ sig (Elt F))).Forall fun op => op.bufs ⊆ tcRefs τ sig :=
  ⟨binary_bufs_sub .., nullary_bufs_sub .., binary_bufs_sub .., unary_bufs_sub .., unary_bufs_sub ..,
    binary_bufs_sub .., nullary_bufs_sub .., unary_bufs_sub .., binary_bufs_sub .., unary_bufs_sub ..,
    binary_bufs_sub .., binary_bufs_sub .., nullary_bufs_sub .., binary_bufs_sub .., unary_bufs_sub ..,
    unary_bufs_sub .., binary_bufs_sub .., nullary_bufs_sub .., nullary_bufs_sub .., nullary_bufs_sub ..,
    quaternary_bufs_sub .., quaternary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub ..⟩

/-- `level1Ops` asks for no fresh buffer. -/
theorem level1Ops_fresh : (level1Ops : List (HloOp τ sig (Elt F))).Forall fun op => op.fresh = ∅ := forall_fresh_of_map rfl

/-- `level2aOps` writes the listed buffers only. -/
theorem level2aOps_writes : (level2aOps : List (HloOp τ sig (Elt F))).Forall fun op =>
    op.writes ⊆ (level2aDst.map (Proc.devRef (τ := τ) .tc)).toFinset := forall_writes_sub_of_map rfl

/-- `level2aOps` touches buffers of the one core only. -/
theorem level2aOps_sub : (level2aOps : List (HloOp τ sig (Elt F))).Forall fun op => op.bufs ⊆ tcRefs τ sig :=
  ⟨binary_bufs_sub .., nullary_bufs_sub .., binary_bufs_sub .., unary_bufs_sub .., unary_bufs_sub ..,
    binary_bufs_sub ..⟩

/-- `level2aOps` asks for no fresh buffer. -/
theorem level2aOps_fresh : (level2aOps : List (HloOp τ sig (Elt F))).Forall fun op => op.fresh = ∅ := forall_fresh_of_map rfl

/-- `level2bOps` writes the listed buffers only. -/
theorem level2bOps_writes : (level2bOps : List (HloOp τ sig (Elt F))).Forall fun op =>
    op.writes ⊆ (level2bDst.map (Proc.devRef (τ := τ) .tc)).toFinset := forall_writes_sub_of_map rfl

/-- `level2bOps` touches buffers of the one core only. -/
theorem level2bOps_sub : (level2bOps : List (HloOp τ sig (Elt F))).Forall fun op => op.bufs ⊆ tcRefs τ sig :=
  ⟨nullary_bufs_sub .., unary_bufs_sub .., binary_bufs_sub .., unary_bufs_sub .., binary_bufs_sub ..,
    binary_bufs_sub .., nullary_bufs_sub .., binary_bufs_sub .., unary_bufs_sub .., unary_bufs_sub ..,
    binary_bufs_sub .., nullary_bufs_sub .., nullary_bufs_sub .., nullary_bufs_sub .., quaternary_bufs_sub ..,
    quaternary_bufs_sub .., nullary_bufs_sub .., unary_bufs_sub .., binary_bufs_sub .., nullary_bufs_sub ..,
    unary_bufs_sub .., binary_bufs_sub .., ternary_bufs_sub .., unary_bufs_sub .., nullary_bufs_sub ..,
    nullary_bufs_sub .., unary_bufs_sub .., binary_bufs_sub .., unary_bufs_sub .., unary_bufs_sub ..,
    binary_bufs_sub .., binary_bufs_sub .., nullary_bufs_sub .., binary_bufs_sub .., binary_bufs_sub ..,
    unary_bufs_sub .., nullary_bufs_sub .., unary_bufs_sub .., ternary_bufs_sub .., binary_bufs_sub ..⟩

/-- `level2bOps` asks for no fresh buffer. -/
theorem level2bOps_fresh : (level2bOps : List (HloOp τ sig (Elt F))).Forall fun op => op.fresh = ∅ := forall_fresh_of_map rfl

/-- `decOps` writes the listed buffers only. -/
theorem decOps_writes : (decOps : List (HloOp τ sig (Elt F))).Forall fun op =>
    op.writes ⊆ (decDst.map (Proc.devRef (τ := τ) .tc)).toFinset := forall_writes_sub_of_map rfl

/-- `decOps` touches buffers of the one core only. -/
theorem decOps_sub : (decOps : List (HloOp τ sig (Elt F))).Forall fun op => op.bufs ⊆ tcRefs τ sig :=
  ⟨unary_bufs_sub .., unary_bufs_sub .., unary_bufs_sub .., nary_bufs_sub .., unary_bufs_sub .., unary_bufs_sub
    .., unary_bufs_sub .., nary_bufs_sub .., nullary_bufs_sub .., binary_bufs_sub .., binary_bufs_sub ..,
    unary_bufs_sub .., unary_bufs_sub .., binary_bufs_sub .., nullary_bufs_sub .., unary_bufs_sub ..,
    binary_bufs_sub .., binary_bufs_sub .., unary_bufs_sub .., unary_bufs_sub .., binary_bufs_sub ..,
    nullary_bufs_sub .., unary_bufs_sub .., binary_bufs_sub .., binary_bufs_sub .., unary_bufs_sub ..,
    unary_bufs_sub .., binary_bufs_sub .., binary_bufs_sub .., binary_bufs_sub .., nullary_bufs_sub ..,
    binary_bufs_sub .., binary_bufs_sub .., binary_bufs_sub .., nullary_bufs_sub .., binary_bufs_sub ..,
    binary_bufs_sub .., binary_bufs_sub .., nullary_bufs_sub .., binary_bufs_sub .., nullary_bufs_sub ..,
    unary_bufs_sub .., binary_bufs_sub .., binary_bufs_sub .., binary_bufs_sub .., nullary_bufs_sub ..,
    binary_bufs_sub .., nullary_bufs_sub .., binary_bufs_sub ..⟩

/-- `decOps` asks for no fresh buffer. -/
theorem decOps_fresh : (decOps : List (HloOp τ sig (Elt F))).Forall fun op => op.fresh = ∅ := forall_fresh_of_map rfl

/-- Every operation touches buffers of the one core only. -/
theorem ops_sub : (ops : List (HloOp τ sig (Elt F))).Forall fun op => op.bufs ⊆ tcRefs τ sig :=
  List.forall_iff_forall_mem.mpr fun op h => by
    simp only [ops, half0, half1, List.mem_append, or_assoc] at h
    rcases h with h | h | h | h | h | h
    exacts [List.forall_iff_forall_mem.mp encOps_sub op h, List.forall_iff_forall_mem.mp level0Ops_sub op h,
      List.forall_iff_forall_mem.mp level1Ops_sub op h, List.forall_iff_forall_mem.mp level2aOps_sub op h,
      List.forall_iff_forall_mem.mp level2bOps_sub op h, List.forall_iff_forall_mem.mp decOps_sub op h]

/-- No operation asks for fresh buffers. -/
theorem ops_fresh : ∀ op ∈ (ops : List (HloOp τ sig (Elt F))), op.fresh = ∅ := fun op h => by
    simp only [ops, half0, half1, List.mem_append, or_assoc] at h
    rcases h with h | h | h | h | h | h
    exacts [List.forall_iff_forall_mem.mp encOps_fresh op h, List.forall_iff_forall_mem.mp level0Ops_fresh op h,
      List.forall_iff_forall_mem.mp level1Ops_fresh op h, List.forall_iff_forall_mem.mp level2aOps_fresh op h,
      List.forall_iff_forall_mem.mp level2bOps_fresh op h, List.forall_iff_forall_mem.mp decOps_fresh op h]

/-- The contents after the whole line, one stage after another. -/
theorem after_ops (V : Valuation τ sig (Elt F)) :
    after ops V = after decOps (after level2bOps (after level2aOps (after level1Ops (after level0Ops (after encOps V))))) := by
  simp only [ops, half0, half1, after_append]

/-- A buffer no operation writes keeps its contents through the whole line. -/
theorem ops_keep (V : Valuation τ sig (Elt F)) (r : Ref sig .tc)
    (h : r ∉ encDst ++ (level0Dst ++ (level1Dst ++ (level2aDst ++ (level2bDst ++ decDst))))) :
    after ops V (Proc.devRef .tc r) = V (Proc.devRef .tc r) := by
  simp only [List.mem_append, not_or] at h
  obtain ⟨h0, h1, h2, h3, h4, h5⟩ := h
  rw [after_ops, after_of_writes_sub decOps _ decOps_writes h5, after_of_writes_sub level2bOps _ level2bOps_writes h4,
    after_of_writes_sub level2aOps _ level2aOps_writes h3, after_of_writes_sub level1Ops _ level1Ops_writes h2,
    after_of_writes_sub level0Ops _ level0Ops_writes h1, after_of_writes_sub encOps _ encOps_writes h0]

end Cert.RefValue

end
-- ==== Proof.RefRun.lean ====
module

public import proofs.«01_k».proof.Proof.RefOps

/-! The reference's stages as functions of arrays, and the result its run leaves. -/

@[expose] public section

set_option maxRecDepth 16384
set_option Elab.async false

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The encoder: three layers, a rectifier between two of them. -/
def encF (x : FVec F S16384x768 .f32) (w0 : FVec F S768x512 .f32) (b0 : FVec F S512 .f32)
    (w1 : FVec F S512x256 .f32) (b1 : FVec F S256 .f32) (w2 : FVec F S256x32 .f32) (b2 : FVec F S32 .f32) :
    FVec F S16384x32 .f32 :=
  addf (Host.dotGeneral dot_S16384x256_S256x32_S16384x32_1_0_0_1_n_n none
    (maximumf (addf (Host.dotGeneral dot_S16384x512_S512x256_S16384x256_1_0_0_1_n_n none
      (maximumf (addf (Host.dotGeneral dot_S16384x768_S768x512_S16384x512_1_0_0_1_n_n none x w0)
          (broadcastInDim S16384x512 ![0, 1] bcast_S1x512_S16384x512_0_1 (broadcastInDim S1x512 ![1] bcast_S512_S1x512_1 b0)))
        (broadcastInDim S16384x512 ![] bcast_S_S16384x512 (constant S_ .f32 0x00000000#32))) w1)
        (broadcastInDim S16384x256 ![0, 1] bcast_S1x256_S16384x256_0_1 (broadcastInDim S1x256 ![1] bcast_S256_S1x256_1 b1)))
      (broadcastInDim S16384x256 ![] bcast_S_S16384x256 (constant S_ .f32 0x00000000#32))) w2)
    (broadcastInDim S16384x32 ![0, 1] bcast_S1x32_S16384x32_0_1 (broadcastInDim S1x32 ![1] bcast_S32_S1x32_1 b2))

/-- The squared distances of a residual array to the rows of a codebook, as the reference forms them. -/
def distF (r : FVec F S16384x32 .f32) (cb : FVec F S8192x32 .f32) : FVec F S16384x8192 .f32 :=
  addf (subf (broadcastInDim S16384x8192 ![0, 1] bcast_S16384x1_S16384x8192_0_1
        (broadcastInDim S16384x1 ![0] bcast_S16384_S16384x1_0
          (Host.reduceAdd (mulf r r) (constant S_ .f32 0x00000000#32) reducesTo_S16384x32_S16384_d1 h_S_)))
      (mulf (broadcastInDim S16384x8192 ![] bcast_S_S16384x8192 (constant S_ .f32 0x40000000#32))
        (Host.dotGeneral dot_S16384x32_S32x8192_S16384x8192_1_0_0_1_n_n none r
          (transpose S32x8192 [1, 0] cb transposes_S8192x32_S32x8192_1_0))))
    (broadcastInDim S16384x8192 ![0, 1] bcast_S1x8192_S16384x8192_0_1
      (broadcastInDim S1x8192 ![1] bcast_S8192_S1x8192_1
        (Host.reduceAdd (mulf cb cb) (constant S_ .f32 0x00000000#32) reducesTo_S8192x32_S8192_d1 h_S_)))

/-- The second result of a two-operand reduction of a float array and an index array. -/
def argIdx {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) :
    IVec t 32 := fun j => (Host.argReduce f x y ix iy h hu j).2

/-- The index of the first smallest distance in every row. -/
def idsF (d : FVec F S16384x8192 .f32) : IVec S16384 32 :=
  argIdx reducer_argmin_f32_i32 d (iotaInDim S16384x8192 32 1) (constant S_ .f32 0x7F800000#32)
    (constantI S_ 32 0#32) reducesTo_S16384x8192_S16384_d1 h_S_

/-- An index array as the column of a gather, a negative index counted from the end. -/
def wrapF (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 8192#32))) ids)

/-- The codebook's rows at an index array, filled with the not-a-number pattern where an index is out of range. -/
def takeF (cb : FVec F S8192x32 .f32) (ids : IVec S16384 32) : FVec F S16384x32 .f32 :=
  select (broadcastInDim S16384x32 ![0] bcast_S16384_S16384x32_0
      (Host.reduce IntOp.andi
        (andi (cmpi .sge (wrapF ids) (broadcastInDim S16384x1 ![] bcast_S_S16384x1 (constantI S_ 32 0#32)))
          (cmpi .sle (wrapF ids) (broadcastInDim S16384x1 ![0, 1] bcast_S1x1_S16384x1_0_1
            (broadcastInDim S1x1 ![1] bcast_S1_S1x1_1 (constantI S1 32 8191#32)))))
        (constantI S_ 1 1#1) reducesTo_S16384x1_S16384_d1 h_S_))
    (Host.gather gather_S8192x32_S16384x1_S16384x32_1_0_n_n_0_1_132 cb (wrapF ids))
    (broadcastInDim S16384x32 ![] bcast_S_S16384x32 (constant S_ .f32 0x7FC00000#32))

/-- One level's embedding: the codebook row nearest to the residual. -/
def embF (r : FVec F S16384x32 .f32) (cb : FVec F S8192x32 .f32) : FVec F S16384x32 .f32 :=
  takeF cb (idsF (distF r cb))

/-- A latent array as one column of a stack. -/
def colF (r : FVec F S16384x32 .f32) : FVec F S16384x32x1 .f32 :=
  broadcastInDim S16384x32x1 ![0, 1] bcast_S16384x32_S16384x32x1_0_1 r

/-- The decoder: three layers, a rectifier between two of them. -/
def decF (e : FVec F S16384x32 .f32) (w0 : FVec F S32x512 .f32) (b0 : FVec F S512 .f32)
    (w1 : FVec F S512x256 .f32) (b1 : FVec F S256 .f32) (w2 : FVec F S256x768 .f32) (b2 : FVec F S768 .f32) :
    FVec F S16384x768 .f32 :=
  addf (Host.dotGeneral dot_S16384x256_S256x768_S16384x768_1_0_0_1_n_n none
    (maximumf (addf (Host.dotGeneral dot_S16384x512_S512x256_S16384x256_1_0_0_1_n_n none
      (maximumf (addf (Host.dotGeneral dot_S16384x32_S32x512_S16384x512_1_0_0_1_n_n none e w0)
          (broadcastInDim S16384x512 ![0, 1] bcast_S1x512_S16384x512_0_1 (broadcastInDim S1x512 ![1] bcast_S512_S1x512_1 b0)))
        (broadcastInDim S16384x512 ![] bcast_S_S16384x512 (constant S_ .f32 0x00000000#32))) w1)
        (broadcastInDim S16384x256 ![0, 1] bcast_S1x256_S16384x256_0_1 (broadcastInDim S1x256 ![1] bcast_S256_S1x256_1 b1)))
      (broadcastInDim S16384x256 ![] bcast_S_S16384x256 (constant S_ .f32 0x00000000#32))) w2)
    (broadcastInDim S16384x768 ![0, 1] bcast_S1x768_S16384x768_0_1 (broadcastInDim S1x768 ![1] bcast_S768_S1x768_1 b2))

/-- The squared differences of two arrays, summed over every row of the first. -/
def reconF (y x : FVec F S16384x768 .f32) : FVec F S16384 .f32 :=
  Host.reduceAdd (mulf (subf y x) (subf y x)) (constant S_ .f32 0x00000000#32) reducesTo_S16384x768_S16384_d1 h_S_

/-- The squared differences of residuals and embeddings, summed over the levels and the latent coordinates. -/
def quantF (R E : FVec F S16384x32x3 .f32) : FVec F S16384 .f32 :=
  Host.reduceAdd (mulf (subf R E) (subf R E)) (constant S_ .f32 0x00000000#32) reducesTo_S16384x32x3_S16384_d2_1 h_S_

/-- Every row's loss, of the stacked residuals and embeddings. -/
def lossRowsF (x : FVec F S16384x768 .f32) (R E : FVec F S16384x32x3 .f32) (w0 : FVec F S32x512 .f32) (b0 : FVec F S512 .f32)
    (w1 : FVec F S512x256 .f32) (b1 : FVec F S256 .f32) (w2 : FVec F S256x768 .f32) (b2 : FVec F S768 .f32) :
    FVec F S16384 .f32 :=
  addf (reconF (decF (Host.reduceAdd E (constant S_ .f32 0x00000000#32) reducesTo_S16384x32x3_S16384x32_d2 h_S_) w0 b0 w1 b1 w2 b2) x)
    (addf (quantF R E) (mulf (broadcastInDim S16384 ![] bcast_S_S16384 (constant S_ .f32 0x3E800000#32)) (quantF R E)))

/-- The mean of the rows' losses. -/
def meanF (l : FVec F S16384 .f32) : FVec F S_ .f32 :=
  Host.divf (Host.reduceAdd l (constant S_ .f32 0x00000000#32) reducesTo_S16384_S_d0 h_S_) (constant S_ .f32 0x46800000#32)

set_option maxRecDepth 8192 in
set_option maxHeartbeats 2000000 in
/-- After the encoder's operations the first residual is the encoder of the arguments. -/
theorem enc_v13 (V : Valuation τ sig (Elt F)) : after encOps V (Proc.devRef .tc main_v13) =
    encF (V (Proc.devRef .tc main_arg0)) (V (Proc.devRef .tc main_arg2)) (V (Proc.devRef .tc main_arg3))
      (V (Proc.devRef .tc main_arg4)) (V (Proc.devRef .tc main_arg5)) (V (Proc.devRef .tc main_arg6))
      (V (Proc.devRef .tc main_arg7)) := by
  simp only [encOps, TRef.binary, TRef.nullary, TRef.ternary, TRef.unary, TRef.toBuf, TRef.ofBuf, cast_eq]
  after_results_simp
  rfl

set_option maxRecDepth 8192 in
set_option maxHeartbeats 2000000 in
/-- After the first level its embedding is the nearest rows for the first residual. -/
theorem level0_v29 (V : Valuation τ sig (Elt F)) : after level0Ops V (Proc.devRef .tc main_v29) =
    embF (V (Proc.devRef .tc main_v13)) (V (Proc.devRef .tc main_arg14)) := by
  simp only [level0Ops, TRef.binary, TRef.nullary, TRef.ternary, TRef.unary, TRef.quaternary, TRef.toBuf, TRef.ofBuf, cast_eq]
  after_results_simp
  rfl

set_option maxRecDepth 8192 in
set_option maxHeartbeats 2000000 in
/-- After the first level the second residual is the first less its embedding. -/
theorem level0_v30 (V : Valuation τ sig (Elt F)) : after level0Ops V (Proc.devRef .tc main_v30) =
    subf (V (Proc.devRef .tc main_v13)) (embF (V (Proc.devRef .tc main_v13)) (V (Proc.devRef .tc main_arg14))) := by
  simp only [level0Ops, TRef.binary, TRef.nullary, TRef.ternary, TRef.unary, TRef.quaternary, TRef.toBuf, TRef.ofBuf, cast_eq]
  after_results_simp
  rfl

set_option maxRecDepth 8192 in
set_option maxHeartbeats 2000000 in
/-- After the second level its embedding is the nearest rows for the second residual. -/
theorem level1_v46 (V : Valuation τ sig (Elt F)) : after level1Ops V (Proc.devRef .tc main_v46) =
    embF (V (Proc.devRef .tc main_v30)) (V (Proc.devRef .tc main_arg15)) := by
  simp only [level1Ops, TRef.binary, TRef.nullary, TRef.ternary, TRef.unary, TRef.quaternary, TRef.toBuf, TRef.ofBuf, cast_eq]
  after_results_simp
  rfl

set_option maxRecDepth 8192 in
set_option maxHeartbeats 2000000 in
/-- After the second level the third residual is the second less its embedding. -/
theorem level1_v47 (V : Valuation τ sig (Elt F)) : after level1Ops V (Proc.devRef .tc main_v47) =
    subf (V (Proc.devRef .tc main_v30)) (embF (V (Proc.devRef .tc main_v30)) (V (Proc.devRef .tc main_arg15))) := by
  simp only [level1Ops, TRef.binary, TRef.nullary, TRef.ternary, TRef.unary, TRef.quaternary, TRef.toBuf, TRef.ofBuf, cast_eq]
  after_results_simp
  rfl

set_option maxRecDepth 8192 in
set_option maxHeartbeats 2000000 in
/-- After the third level its embedding is the nearest rows for the third residual. -/
theorem level2_v63 (V : Valuation τ sig (Elt F)) : after level2bOps (after level2aOps V) (Proc.devRef .tc main_v63) =
    embF (V (Proc.devRef .tc main_v47)) (V (Proc.devRef .tc main_arg16)) := by
  simp only [level2aOps, level2bOps, TRef.binary, TRef.nullary, TRef.ternary, TRef.unary, TRef.quaternary, TRef.toBuf, TRef.ofBuf, cast_eq]
  after_results_simp
  rfl

set_option maxRecDepth 8192 in
set_option maxHeartbeats 2000000 in
/-- After the last stage the result is the mean of the row losses. -/
theorem dec_v102 (V : Valuation τ sig (Elt F)) : after decOps V (Proc.devRef .tc main_v102) =
    meanF (lossRowsF (V (Proc.devRef .tc main_arg0))
      (stack3 (colF (V (Proc.devRef .tc main_v13))) (colF (V (Proc.devRef .tc main_v30))) (colF (V (Proc.devRef .tc main_v47))))
      (stack3 (colF (V (Proc.devRef .tc main_v29))) (colF (V (Proc.devRef .tc main_v46))) (colF (V (Proc.devRef .tc main_v63))))
      (V (Proc.devRef .tc main_arg8)) (V (Proc.devRef .tc main_arg9)) (V (Proc.devRef .tc main_arg10))
      (V (Proc.devRef .tc main_arg11)) (V (Proc.devRef .tc main_arg12)) (V (Proc.devRef .tc main_arg13))) := by
  simp only [decOps, TRef.binary, TRef.nullary, TRef.ternary, TRef.unary, TRef.toBuf, TRef.ofBuf, cast_eq]
  after_results_simp
  try dsimp only [Matrix.cons_val]
  try after_results_simp
  rfl

/-- The reference's result of its arguments. -/
def refF (x : FVec F S16384x768 .f32) (ew0 : FVec F S768x512 .f32) (eb0 : FVec F S512 .f32)
    (ew1 : FVec F S512x256 .f32) (eb1 : FVec F S256 .f32) (ew2 : FVec F S256x32 .f32) (eb2 : FVec F S32 .f32)
    (dw0 : FVec F S32x512 .f32) (db0 : FVec F S512 .f32) (dw1 : FVec F S512x256 .f32) (db1 : FVec F S256 .f32)
    (dw2 : FVec F S256x768 .f32) (db2 : FVec F S768 .f32) (cb0 cb1 cb2 : FVec F S8192x32 .f32) : FVec F S_ .f32 :=
  let r0 := encF x ew0 eb0 ew1 eb1 ew2 eb2
  let e0 := embF r0 cb0
  let r1 := subf r0 e0
  let e1 := embF r1 cb1
  let r2 := subf r1 e1
  let e2 := embF r2 cb2
  meanF (lossRowsF x (stack3 (colF r0) (colF r1) (colF r2)) (stack3 (colF e0) (colF e1) (colF e2)) dw0 db0 dw1 db1 dw2 db2)

/-- After @main's operations the result buffer holds `refF` of the arguments. -/
theorem after_ops_result (V : Valuation τ sig (Elt F)) : after ops V (Proc.devRef .tc main_v102) =
    refF (V (Proc.devRef .tc main_arg0)) (V (Proc.devRef .tc main_arg2)) (V (Proc.devRef .tc main_arg3))
      (V (Proc.devRef .tc main_arg4)) (V (Proc.devRef .tc main_arg5)) (V (Proc.devRef .tc main_arg6))
      (V (Proc.devRef .tc main_arg7)) (V (Proc.devRef .tc main_arg8)) (V (Proc.devRef .tc main_arg9))
      (V (Proc.devRef .tc main_arg10)) (V (Proc.devRef .tc main_arg11)) (V (Proc.devRef .tc main_arg12))
      (V (Proc.devRef .tc main_arg13)) (V (Proc.devRef .tc main_arg14)) (V (Proc.devRef .tc main_arg15))
      (V (Proc.devRef .tc main_arg16)) := by
  have k0 : ∀ (V : Valuation τ sig (Elt F)) (r : Ref sig .tc), r ∉ encDst → after encOps V (Proc.devRef .tc r) = V (Proc.devRef .tc r) :=
    fun V r h => after_of_writes_sub _ V encOps_writes h
  have k1 : ∀ (V : Valuation τ sig (Elt F)) (r : Ref sig .tc), r ∉ level0Dst → after level0Ops V (Proc.devRef .tc r) = V (Proc.devRef .tc r) :=
    fun V r h => after_of_writes_sub _ V level0Ops_writes h
  have k2 : ∀ (V : Valuation τ sig (Elt F)) (r : Ref sig .tc), r ∉ level1Dst → after level1Ops V (Proc.devRef .tc r) = V (Proc.devRef .tc r) :=
    fun V r h => after_of_writes_sub _ V level1Ops_writes h
  have k3 : ∀ (V : Valuation τ sig (Elt F)) (r : Ref sig .tc), r ∉ level2aDst ++ level2bDst →
      after level2bOps (after level2aOps V) (Proc.devRef .tc r) = V (Proc.devRef .tc r) := fun V r h => by
    rw [List.mem_append, not_or] at h
    rw [after_of_writes_sub _ _ level2bOps_writes h.2, after_of_writes_sub _ _ level2aOps_writes h.1]
  -- an argument before each stage
  have a1 : ∀ r : Ref sig .tc, r ∉ encDst ++ (level0Dst ++ (level1Dst ++ (level2aDst ++ level2bDst))) →
      after level2bOps (after level2aOps (after level1Ops (after level0Ops (after encOps V)))) (Proc.devRef .tc r)
        = V (Proc.devRef .tc r) := fun r h => by
    simp only [List.mem_append, not_or] at h
    rw [k3 _ r (by simp only [List.mem_append, not_or]; exact ⟨h.2.2.2.1, h.2.2.2.2⟩), k2 _ r h.2.2.1, k1 _ r h.2.1, k0 _ r h.1]
  have h13 : after level2bOps (after level2aOps (after level1Ops (after level0Ops (after encOps V)))) (Proc.devRef .tc main_v13)
      = after encOps V (Proc.devRef .tc main_v13) := by
    rw [k3 _ _ (by decide), k2 _ _ (by decide), k1 _ _ (by decide)]
  have h29 : after level2bOps (after level2aOps (after level1Ops (after level0Ops (after encOps V)))) (Proc.devRef .tc main_v29)
      = after level0Ops (after encOps V) (Proc.devRef .tc main_v29) := by
    rw [k3 _ _ (by decide), k2 _ _ (by decide)]
  have h30 : after level2bOps (after level2aOps (after level1Ops (after level0Ops (after encOps V)))) (Proc.devRef .tc main_v30)
      = after level0Ops (after encOps V) (Proc.devRef .tc main_v30) := by
    rw [k3 _ _ (by decide), k2 _ _ (by decide)]
  have h46 : after level2bOps (after level2aOps (after level1Ops (after level0Ops (after encOps V)))) (Proc.devRef .tc main_v46)
      = after level1Ops (after level0Ops (after encOps V)) (Proc.devRef .tc main_v46) := k3 _ _ (by decide)
  have h47 : after level2bOps (after level2aOps (after level1Ops (after level0Ops (after encOps V)))) (Proc.devRef .tc main_v47)
      = after level1Ops (after level0Ops (after encOps V)) (Proc.devRef .tc main_v47) := k3 _ _ (by decide)
  rw [after_ops, dec_v102, h13, h29, h30, h46, h47, level2_v63, level1_v46, level1_v47, level0_v29, level0_v30,
    k2 _ main_arg16 (by decide), k1 _ main_arg16 (by decide), k0 _ main_arg16 (by decide),
    k1 _ main_arg15 (by decide), k0 _ main_arg15 (by decide), k0 _ main_arg14 (by decide), enc_v13,
    a1 main_arg0 (by decide), a1 main_arg8 (by decide), a1 main_arg9 (by decide), a1 main_arg10 (by decide),
    a1 main_arg11 (by decide), a1 main_arg12 (by decide), a1 main_arg13 (by decide)]
  rfl

/-- Every weakly fair run of the reference ends with `refF` of the arguments in the result buffer, and every buffer
    no operation writes (the arguments among them) as it was at the start. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102) =
        refF (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14))
          (m ((c.tc : Thread nD τ).loc main_arg15)) (m ((c.tc : Thread nD τ).loc main_arg16))
      ∧ ∀ r' : Ref sig .tc, r' ∉ encDst ++ (level0Dst ++ (level1Dst ++ (level2aDst ++ (level2bDst ++ decDst)))) →
        r.2.mem ((c.tc : Thread nD τ).loc r') = m ((c.tc : Thread nD τ).loc r') :=
  (θ_run defs _ _).mono (fun _ h c => ⟨(h c main_v102).trans (after_ops_result (launchContents m c)),
      fun r' hr => (h c r').trans (ops_keep (launchContents m c) r' hr)⟩)
    (run_seq scopedRefs_eq scopedSems_eq defs main (fun _ => ops) main_eq (fun _ => ops_sub) m ρ fun _ => ops_fresh)

end Cert.RefValue

end
-- ==== Proof.RefRow.lean ====
module

public import proofs.«01_k».proof.Proof.RefRun
public import proofs.«01_k».proof.Proof.RowMath
public import Idealize.ShloMosaic.Lib.Pointwise
public import Idealize.ShloMosaic.Lib.Routing.Ops
public import Idealize.ShloMosaic.Lib.Routing.OpsPair

/-! The reference's stages at an index: every row's loss is `RowMath`'s formula in the reference's arrangement. -/

@[expose] public section

set_option maxRecDepth 16384

noncomputable section

namespace Cert.RefValue

open Cert.ReferenceIdeal Cert.ReferenceIdeal.Gen Idealize.ShloMosaic Cert.RowMath

/-- A weight array as a matrix. -/
def mat {n m : ℕ} (w : FVec Ideal ⟨2, ![n, m]⟩ .f32) (i : Fin n) (j : Fin m) : EReal := w (ix2 i j)

/-- A bias array as a vector. -/
def vec {n : ℕ} (b : FVec Ideal ⟨1, ![n]⟩ .f32) (j : Fin n) : EReal := b (ix1 j)

/-- The word of the factor in the distances is two. -/
theorem two_bits : Ideal.ofBits .f32 0x40000000#32 = 2 := by
  simp [Ideal.ofBits, Ideal.ieee]
  rw [← EReal.coe_mul]
  norm_num
  rfl

/-- The word the search for the smallest distance starts from is plus infinity. -/
theorem inf_bits : Ideal.ofBits .f32 0x7F800000#32 = ⊤ := by
  simp [Ideal.ofBits, Ideal.ieee]

/-- The word of the commitment weight is a quarter. -/
theorem quarter_bits : Ideal.ofBits .f32 0x3E800000#32 = ((0.25 : ℝ) : EReal) := by
  simp [Ideal.ofBits, Ideal.ieee]
  rw [← EReal.coe_mul]
  norm_num

/-- A row of the encoder's result. -/
theorem enc_apply (x : FVec Ideal S16384x768 .f32) (w0 : FVec Ideal S768x512 .f32) (b0 : FVec Ideal S512 .f32)
    (w1 : FVec Ideal S512x256 .f32) (b1 : FVec Ideal S256 .f32) (w2 : FVec Ideal S256x32 .f32) (b2 : FVec Ideal S32 .f32)
    (i : Fin 16384) : mat (encF x w0 b0 w1 b1 w2 b2) i = mlp (mat w0) (vec b0) (mat w1) (vec b1) (mat w2) (vec b2) (mat x i) := by
  funext k
  unfold mat
  pointwise [encF]
  rfl

/-- A row of the decoder's result. -/
theorem dec_apply (e : FVec Ideal S16384x32 .f32) (w0 : FVec Ideal S32x512 .f32) (b0 : FVec Ideal S512 .f32)
    (w1 : FVec Ideal S512x256 .f32) (b1 : FVec Ideal S256 .f32) (w2 : FVec Ideal S256x768 .f32) (b2 : FVec Ideal S768 .f32)
    (i : Fin 16384) : mat (decF e w0 b0 w1 b1 w2 b2) i = mlp (mat w0) (vec b0) (mat w1) (vec b1) (mat w2) (vec b2) (mat e i) := by
  funext k
  unfold mat
  pointwise [decF]
  rfl

/-- The reference's distances of a row. -/
theorem dist_apply (r : FVec Ideal S16384x32 .f32) (cb : FVec Ideal S8192x32 .f32) (i : Fin 16384) (j : Fin 8192) :
    distF r cb (ix2 i j) = distR (mat cb) (mat r i) j := by
  pointwise [distF]
  rw [two_bits]
  rfl

/-- The reconstruction part of a row's loss. -/
theorem recon_apply (y x : FVec Ideal S16384x768 .f32) (i : Fin 16384) :
    reconF y x (ix1 i) = normSq (diff (mat y i) (mat x i)) := by
  pointwise [reconF]
  rfl

/-- A row's quantisation loss is the sum over levels and places of the squared differences. -/
theorem quant_apply (R E : FVec Ideal S16384x32x3 .f32) (i : Fin 16384) :
    quantF R E (ix1 i) = ∑ l : Fin 3, ∑ k : Fin 32, (R (ix3 i k l) - E (ix3 i k l)) * (R (ix3 i k l) - E (ix3 i k l)) := by
  pointwise [quantF]
  unfold Ideal.hostReduceAdd
  have hm : ∀ y : S16384x32x3.Idx, reducesTo_S16384x32x3_S16384_d2_1.drop y = ix1 i ↔ y 0 = i := fun y => by
    have e := reducesTo_S16384x32x3_S16384_d2_1.drop_apply_val_of_eq y 0 0
    refine ⟨fun h => Fin.ext ?_, fun h => funext fun a => Fin.ext ?_⟩
    · rw [← e, h]
      rfl
    · match a with
      | ⟨0, _⟩ => exact e.trans (congrArg Fin.val h)
  rw [zero_add, ← Fintype.sum_prod_type' fun (l : Fin 3) (k : Fin 32) =>
    (R (ix3 i k l) - E (ix3 i k l)) * (R (ix3 i k l) - E (ix3 i k l))]
  refine Finset.sum_nbij' (fun y => (y 2, y 1)) (fun p => ix3 i p.2 p.1) (fun _ _ => Finset.mem_univ _)
    (fun p _ => Finset.mem_filter.mpr ⟨Finset.mem_univ _, (hm _).mpr rfl⟩) (fun y hy => ?_) (fun _ _ => rfl) (fun y hy => ?_)
  · have h0 := (hm y).mp (Finset.mem_filter.mp hy).2
    subst h0
    exact (eq_ix3 y).symm
  · have h0 := (hm y).mp (Finset.mem_filter.mp hy).2
    subst h0
    have hy' := eq_ix3 y
    rw [← hy']
    rfl

/-- A level of the stack is the array it was stacked from. -/
theorem stack_apply (u0 u1 u2 : FVec Ideal S16384x32 .f32) (i : Fin 16384) (k : Fin 32) (l : Fin 3) :
    stack3 (colF u0) (colF u1) (colF u2) (ix3 i k l) = ![u0 (ix2 i k), u1 (ix2 i k), u2 (ix2 i k)] l := by
  pointwise [stack3, colF]
  fin_cases l <;> rfl

/-- The mean of the row losses is their sum divided by the word of 16384. -/
theorem mean_apply (l : FVec Ideal S16384 .f32) (j : S_.Idx) :
    meanF l j = Ideal.div (∑ n : Fin 16384, l (ix1 n)) (Ideal.ofBits .f32 0x46800000#32) := by
  pointwise [meanF]

/-- The lookup at an index inside the codebook is that row of the codebook. -/
theorem take_apply (cb : FVec Ideal S8192x32 .f32) (ids : IVec S16384 32) (i : Fin 16384) (n : Fin 8192)
    (h : ids (ix1 i) = BitVec.ofNat 32 n.val) (k : Fin 32) : takeF cb ids (ix2 i k) = cb (ix2 n k) := by
  have hn := n.isLt
  have hw : Scalar.select (IntOp.cmpi .slt (ids (ix1 i)) 0#32) (IntOp.addi (ids (ix1 i)) 8192#32) (ids (ix1 i))
      = BitVec.ofNat 32 n.val := by
    rw [h, Routing.wrap_of_lt]
    rw [BitVec.toNat_ofNat]
    omega
  have hg : wrapF ids (ix2 i 0) = BitVec.ofNat 32 n.val := by
    pointwise [wrapF]
    exact hw
  have hi : (BitVec.ofNat 32 n.val).toInt = n.val := by
    rw [BitVec.toInt_eq_toNat_of_lt (by rw [BitVec.toNat_ofNat]; omega), BitVec.toNat_ofNat]
    omega
  have hr : Host.gather gather_S8192x32_S16384x1_S16384x32_1_0_n_n_0_1_132 cb (wrapF ids) (ix2 i k) = cb (ix2 n k) :=
    Routing.gather_row gather_S8192x32_S16384x1_S16384x32_1_0_n_n_0_1_132 rfl rfl rfl rfl rfl cb (wrapF ids) i k n hg (by norm_num)
  have hok : IntOp.andi (IntOp.cmpi .sge (BitVec.ofNat 32 n.val) 0#32) (IntOp.cmpi .sle (BitVec.ofNat 32 n.val) 8191#32) = 1#1 := by
    have e0 : (0#32).toInt = 0 := by decide
    have e1 : (8191#32).toInt = 8191 := by decide
    simp only [IntOp.cmpi, BitVec.slt, BitVec.sle, hi, e0, e1]
    rw [decide_eq_true (by omega), decide_eq_true (by omega)]
    rfl
  pointwise [takeF]
  rw [hr, Finset.univ_unique, Finset.fold_singleton, show wrapF ids (ix2 i default) = BitVec.ofNat 32 n.val from hg, hok]
  rfl

/-- The pair the reference's reducer keeps: the smaller value's, of two equal values the smaller index's. -/
theorem reducer_eq (a b : EReal × BitVec 32) : reducer_argmin_f32_i32 (F := Ideal) a b =
    if a.1 < b.1 ∨ (a.1 = b.1 ∧ a.2.toInt < b.2.toInt) then a else b := by
  obtain ⟨a, i⟩ := a
  obtain ⟨b, j⟩ := b
  unfold reducer_argmin_f32_i32
  have hlt : (FloatOps.cmpf (F := Ideal) (φ := .f32) .olt a b) = BitVec.ofBool (decide (a < b)) := rfl
  have heq : (FloatOps.cmpf (F := Ideal) (φ := .f32) .oeq a b) = BitVec.ofBool (decide (a = b)) := rfl
  have hne : (FloatOps.cmpf (F := Ideal) (φ := .f32) .une a a) = BitVec.ofBool (decide (a ≠ a)) := rfl
  have hs : IntOp.cmpi .slt i j = BitVec.ofBool (decide (i.toInt < j.toInt)) := rfl
  simp only [hlt, heq, hne, hs, ne_eq, not_true_eq_false, decide_false]
  by_cases h1 : a < b <;> by_cases h2 : a = b <;> by_cases h3 : i.toInt < j.toInt <;>
    simp [h1, h2, h3, Scalar.select, IntOp.ori, IntOp.andi]

/-- A fold of the reducer ends at the start or at an element, and at none that another one precedes. -/
theorem foldl_reducer (L : List (EReal × BitVec 32)) (a : EReal × BitVec 32) :
    (L.foldl (reducer_argmin_f32_i32 (F := Ideal)) a = a ∨ L.foldl (reducer_argmin_f32_i32 (F := Ideal)) a ∈ L)
    ∧ ∀ q ∈ a :: L, (L.foldl (reducer_argmin_f32_i32 (F := Ideal)) a).1 < q.1
      ∨ ((L.foldl (reducer_argmin_f32_i32 (F := Ideal)) a).1 = q.1
        ∧ (L.foldl (reducer_argmin_f32_i32 (F := Ideal)) a).2.toInt ≤ q.2.toInt) := by
  induction L generalizing a with
  | nil => exact ⟨Or.inl rfl, fun q hq => by rw [List.mem_singleton] at hq; subst hq; exact Or.inr ⟨rfl, le_rfl⟩⟩
  | cons b L ih =>
    rw [List.foldl_cons]
    obtain ⟨h1, h2⟩ := ih (reducer_argmin_f32_i32 (F := Ideal) a b)
    generalize List.foldl (reducer_argmin_f32_i32 (F := Ideal)) (reducer_argmin_f32_i32 (F := Ideal) a b) L = p at h1 h2
    have hc := h2 _ (List.mem_cons_self ..)
    rw [reducer_eq] at h1 hc
    refine ⟨?_, fun q hq => ?_⟩
    · rcases h1 with h1 | h1
      · split at h1
        · exact Or.inl h1
        · exact Or.inr (h1 ▸ List.mem_cons_self ..)
      · exact Or.inr (List.mem_cons_of_mem _ h1)
    · have hab : ∀ u v w : EReal × BitVec 32, (u.1 < v.1 ∨ (u.1 = v.1 ∧ u.2.toInt ≤ v.2.toInt)) →
          (v.1 < w.1 ∨ (v.1 = w.1 ∧ v.2.toInt ≤ w.2.toInt)) → (u.1 < w.1 ∨ (u.1 = w.1 ∧ u.2.toInt ≤ w.2.toInt)) := by
        rintro u v w (h | ⟨h, h'⟩) (g | ⟨g, g'⟩)
        · exact Or.inl (h.trans g)
        · exact Or.inl (g ▸ h)
        · exact Or.inl (h ▸ g)
        · exact Or.inr ⟨h.trans g, h'.trans g'⟩
      rcases List.mem_cons.mp hq with rfl | hq
      · split at hc
        · exact hc
        · rename_i hn
          refine hab _ _ _ hc ?_
          simp only [not_or, not_and, not_lt] at hn
          rcases hn.1.lt_or_eq with h | h
          · exact Or.inl h
          · exact Or.inr ⟨h, hn.2 h.symm⟩
      · rcases List.mem_cons.mp hq with rfl | hq
        · split at hc
          · rename_i hy
            refine hab _ _ _ hc ?_
            rcases hy with h | ⟨h, h'⟩
            · exact Or.inl h
            · exact Or.inr ⟨h, h'.le⟩
          · exact hc
        · exact h2 q (List.mem_cons_of_mem _ hq)

/-- The fiber of a two-operand reduction holds exactly the pairs at the indices that drop to `j`. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ z, h.drop z = j ∧ p = (x z, y z) := by
  unfold Host.argReduceFiber
  simp only [List.mem_map, List.mem_filter, List.mem_finRange, true_and, decide_eq_true_eq]
  constructor
  · rintro ⟨n, hn, rfl⟩
    exact ⟨_, hn, rfl⟩
  · rintro ⟨z, hz, rfl⟩
    exact ⟨s.rowMajor z, by rw [Equiv.symm_apply_apply]; exact hz, by rw [Equiv.symm_apply_apply]⟩

/-- A codebook index as a 32-bit word reads back, signed, as itself. -/
theorem ofNat_toInt (j : Fin 8192) : (BitVec.ofNat 32 j.val).toInt = j.val := by
  have := j.isLt
  rw [BitVec.toInt_eq_toNat_of_lt (by rw [BitVec.toNat_ofNat]; omega), BitVec.toNat_ofNat]
  omega

/-- The distances' reduction drops the column. -/
theorem drop_col (y : S16384x8192.Idx) (i : Fin 16384) : reducesTo_S16384x8192_S16384_d1.drop y = ix1 i ↔ y 0 = i := by
  have e := reducesTo_S16384x8192_S16384_d1.drop_apply_val_of_eq y 0 0
  refine ⟨fun h => Fin.ext ?_, fun h => funext fun a => Fin.ext ?_⟩
  · rw [← e, h]
    rfl
  · match a with
    | ⟨0, _⟩ => exact e.trans (congrArg Fin.val h)

/-- So a row's fiber holds its distances with their indices. -/
theorem mem_row_fiber (D : FVec Ideal S16384x8192 .f32) (i : Fin 16384) (p : Ideal .f32 × BitVec 32) :
    p ∈ Host.argReduceFiber D (iotaInDim S16384x8192 32 1) reducesTo_S16384x8192_S16384_d1 (ix1 i)
      ↔ ∃ j : Fin 8192, p = (D (ix2 i j), BitVec.ofNat 32 j.val) := by
  rw [mem_fiber]
  constructor
  · rintro ⟨z, hz, rfl⟩
    have h0 := (drop_col z i).mp hz
    subst h0
    exact ⟨z 1, Prod.ext (congrArg D (eq_ix2 z)) rfl⟩
  · rintro ⟨j, rfl⟩
    exact ⟨ix2 i j, (drop_col _ i).mpr rfl, rfl⟩

/-- A pair that starts at infinity and index 0, or is a row's, and that no pair of the row precedes, is the pair at the
    row's first smallest value. -/
theorem first_of_le (f : Fin 8192 → EReal) (p : EReal × BitVec 32)
    (h1 : p = (⊤, BitVec.ofNat 32 (0 : Fin 8192).val) ∨ ∃ j, p = (f j, BitVec.ofNat 32 j.val))
    (h2 : ∀ j, p.1 < f j ∨ (p.1 = f j ∧ p.2.toInt ≤ (BitVec.ofNat 32 j.val).toInt)) :
    p.2 = BitVec.ofNat 32 (firstMin f).val := by
  have hp : ∃ j, p = (f j, BitVec.ofNat 32 j.val) := by
    rcases h1 with rfl | h1
    · refine ⟨0, ?_⟩
      rcases h2 0 with h | ⟨h, -⟩
      · exact absurd h not_top_lt
      · exact Prod.ext h rfl
    · exact h1
  obtain ⟨j, rfl⟩ := hp
  have hf : IsFirstMin f j := by
    refine ⟨fun k => ?_, fun k hk => ?_⟩
    · rcases h2 k with h | ⟨h, -⟩
      · exact h.le
      · exact h.le
    · rcases h2 k with h | ⟨-, h⟩
      · exact absurd hk (not_le.mpr h)
      · rw [ofNat_toInt, ofNat_toInt] at h
        exact Fin.le_def.mpr (by exact_mod_cast h)
  rw [← hf.eq_firstMin]

/-- A two-operand reduction's index is the fold's, no value of an exact array differing from itself. -/
theorem argIdx_apply {s t u : Shape} {axes : List (Fin s.rank)}
    (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel)
    (j : t.Idx) : argIdx f x y ix iy h hu j
      = ((Host.argReduceFiber x y h j).foldl f (ix (Shape.Idx.first hu), iy (Shape.Idx.first hu))).2 := by
  unfold argIdx
  rw [Ideal.argReduce_eq_reduce2, Host.reduce2_eq_foldl_fiber]

/-- The reducer's fold from the pair at infinity over a list that holds a row's pairs ends at the row's first smallest. -/
theorem foldl_first (f : Fin 8192 → EReal) (L : List (Ideal .f32 × BitVec 32)) (a : Ideal .f32 × BitVec 32)
    (ha : a = ((⊤ : EReal), BitVec.ofNat 32 (0 : Fin 8192).val)) (hL : ∀ p, p ∈ L ↔ ∃ j : Fin 8192, p = (f j, BitVec.ofNat 32 j.val)) :
    (L.foldl (reducer_argmin_f32_i32 (F := Ideal)) a).2 = BitVec.ofNat 32 (firstMin f).val := by
  subst ha
  obtain ⟨h1, h2⟩ := foldl_reducer L (⊤, BitVec.ofNat 32 (0 : Fin 8192).val)
  exact first_of_le f _ (h1.imp id (hL _).mp) fun j => h2 _ (List.mem_cons_of_mem _ ((hL _).mpr ⟨j, rfl⟩))

/-- The reference's index of a row: the first smallest distance's. -/
theorem ids_apply (D : FVec Ideal S16384x8192 .f32) (i : Fin 16384) :
    idsF D (ix1 i) = BitVec.ofNat 32 (firstMin fun j : Fin 8192 => D (ix2 i j)).val :=
  (argIdx_apply (reducer_argmin_f32_i32 (F := Ideal)) D (iotaInDim S16384x8192 32 1) (constant S_ .f32 0x7F800000#32)
    (constantI S_ 32 0#32) reducesTo_S16384x8192_S16384_d1 h_S_ (ix1 i)).trans
    (foldl_first (fun j => D (ix2 i j)) _ _ (Prod.ext inf_bits rfl) fun p => mem_row_fiber D i p)

/-- A row of a level's embedding is the codebook row nearest to the residual's row. -/
theorem emb_apply (r : FVec Ideal S16384x32 .f32) (cb : FVec Ideal S8192x32 .f32) (i : Fin 16384) :
    mat (embF r cb) i = nearest distR (mat cb) (mat r i) := by
  funext k
  have h : (fun j : Fin 8192 => distF r cb (ix2 i j)) = distR (mat cb) (mat r i) := funext fun j => dist_apply r cb i j
  have hi := ids_apply (distF r cb) i
  rw [h] at hi
  exact take_apply cb (idsF (distF r cb)) i _ hi k

/-- A row of a difference of latent arrays. -/
theorem sub_apply (a b : FVec Ideal S16384x32 .f32) (i : Fin 16384) : mat (subf a b) i = diff (mat a i) (mat b i) := by
  funext k
  unfold mat
  pointwise []
  rfl

/-- A row of the stack's sum over the levels. -/
theorem total_apply (E : FVec Ideal S16384x32x3 .f32) (i : Fin 16384) (k : Fin 32) :
    mat (Host.reduceAdd E (constant S_ .f32 0x00000000#32) reducesTo_S16384x32x3_S16384x32_d2 h_S_) i k
      = ∑ l : Fin 3, E (ix3 i k l) := by
  unfold mat
  pointwise []

/-- A row's loss, of the stacked residuals and embeddings. -/
theorem lossRows_apply (x : FVec Ideal S16384x768 .f32) (R E : FVec Ideal S16384x32x3 .f32) (w0 : FVec Ideal S32x512 .f32)
    (b0 : FVec Ideal S512 .f32) (w1 : FVec Ideal S512x256 .f32) (b1 : FVec Ideal S256 .f32) (w2 : FVec Ideal S256x768 .f32)
    (b2 : FVec Ideal S768 .f32) (i : Fin 16384) : lossRowsF x R E w0 b0 w1 b1 w2 b2 (ix1 i) =
      normSq (diff (mlp (mat w0) (vec b0) (mat w1) (vec b1) (mat w2) (vec b2) fun k => ∑ l : Fin 3, E (ix3 i k l)) (mat x i))
        + (quantF R E (ix1 i) + (0.25 : ℝ) * quantF R E (ix1 i)) := by
  have e : mat (Host.reduceAdd E (constant S_ .f32 0x00000000#32) reducesTo_S16384x32x3_S16384x32_d2 h_S_) i
      = fun k => ∑ l : Fin 3, E (ix3 i k l) := funext fun k => total_apply E i k
  rw [← e, ← dec_apply, ← recon_apply, ← quarter_bits]
  rfl

/-- Row `n`'s loss in the reference's arrangement, of the arguments' contents. -/
def lossR (x : FVec Ideal S16384x768 .f32) (ew0 : FVec Ideal S768x512 .f32) (eb0 : FVec Ideal S512 .f32)
    (ew1 : FVec Ideal S512x256 .f32) (eb1 : FVec Ideal S256 .f32) (ew2 : FVec Ideal S256x32 .f32) (eb2 : FVec Ideal S32 .f32)
    (dw0 : FVec Ideal S32x512 .f32) (db0 : FVec Ideal S512 .f32) (dw1 : FVec Ideal S512x256 .f32) (db1 : FVec Ideal S256 .f32)
    (dw2 : FVec Ideal S256x768 .f32) (db2 : FVec Ideal S768 .f32) (cb0 cb1 cb2 : FVec Ideal S8192x32 .f32)
    (n : Fin 16384) : EReal :=
  rowLossR (mlp (mat dw0) (vec db0) (mat dw1) (vec db1) (mat dw2) (vec db2)) (books (mat cb0) (mat cb1) (mat cb2))
    (mlp (mat ew0) (vec eb0) (mat ew1) (vec eb1) (mat ew2) (vec eb2) (mat x n)) (mat x n)

/-- Three levels' residuals, rows and loss, written out, are the reference's row loss. -/
theorem rowLossR_three {K d p : ℕ} [NeZero K] (dec : (Fin d → EReal) → Fin p → EReal) (c0 c1 c2 : Fin K → Fin d → EReal)
    (x : Fin p → EReal) {r0 r1 r2 u0 u1 u2 : Fin d → EReal} (e0 : u0 = nearest distR c0 r0) (h1 : r1 = diff r0 u0)
    (e1 : u1 = nearest distR c1 r1) (h2 : r2 = diff r1 u1) (e2 : u2 = nearest distR c2 r2) {q : EReal}
    (hq : q = normSq (diff r0 u0) + normSq (diff r1 u1) + normSq (diff r2 u2)) :
    normSq (diff (dec fun k => u0 k + u1 k + u2 k) x) + (q + (0.25 : ℝ) * q) = rowLossR dec (books c0 c1 c2) r0 x := by
  subst hq e2 h2 e1 h1 e0
  unfold rowLossR quant
  simp only [Finset.sum_range_succ, Finset.sum_range_zero, zero_add]
  rfl

/-- The quantisation loss of a row, of the three levels' residuals and embeddings. -/
theorem quant_stack (r0 r1 r2 u0 u1 u2 : FVec Ideal S16384x32 .f32) (i : Fin 16384) :
    quantF (stack3 (colF r0) (colF r1) (colF r2)) (stack3 (colF u0) (colF u1) (colF u2)) (ix1 i) =
      normSq (diff (mat r0 i) (mat u0 i)) + normSq (diff (mat r1 i) (mat u1 i)) + normSq (diff (mat r2 i) (mat u2 i)) := by
  rw [quant_apply]
  simp only [stack_apply, Fin.sum_univ_three]
  rfl

/-- The row losses of three levels whose embeddings are the nearest rows and whose residuals are the differences. -/
theorem lossRows_stack (x : FVec Ideal S16384x768 .f32) (w0 : FVec Ideal S32x512 .f32) (b0 : FVec Ideal S512 .f32)
    (w1 : FVec Ideal S512x256 .f32) (b1 : FVec Ideal S256 .f32) (w2 : FVec Ideal S256x768 .f32) (b2 : FVec Ideal S768 .f32)
    (c0 c1 c2 : FVec Ideal S8192x32 .f32) (r0 r1 r2 u0 u1 u2 : FVec Ideal S16384x32 .f32) (i : Fin 16384)
    (e0 : mat u0 i = nearest distR (mat c0) (mat r0 i)) (h1 : mat r1 i = diff (mat r0 i) (mat u0 i))
    (e1 : mat u1 i = nearest distR (mat c1) (mat r1 i)) (h2 : mat r2 i = diff (mat r1 i) (mat u1 i))
    (e2 : mat u2 i = nearest distR (mat c2) (mat r2 i)) :
    lossRowsF x (stack3 (colF r0) (colF r1) (colF r2)) (stack3 (colF u0) (colF u1) (colF u2)) w0 b0 w1 b1 w2 b2 (ix1 i) =
      rowLossR (mlp (mat w0) (vec b0) (mat w1) (vec b1) (mat w2) (vec b2)) (books (mat c0) (mat c1) (mat c2))
        (mat r0 i) (mat x i) := by
  have e : (fun k : Fin 32 => ∑ l : Fin 3, stack3 (colF u0) (colF u1) (colF u2) (ix3 i k l))
      = fun k => mat u0 i k + mat u1 i k + mat u2 i k := by
    funext k
    simp only [stack_apply, Fin.sum_univ_three]
    rfl
  rw [lossRows_apply, e]
  exact rowLossR_three _ _ _ _ _ e0 h1 e1 h2 e2 (quant_stack r0 r1 r2 u0 u1 u2 i)

/-- The reference's result is the mean of its row losses. -/
theorem ref_apply (x : FVec Ideal S16384x768 .f32) (ew0 : FVec Ideal S768x512 .f32) (eb0 : FVec Ideal S512 .f32)
    (ew1 : FVec Ideal S512x256 .f32) (eb1 : FVec Ideal S256 .f32) (ew2 : FVec Ideal S256x32 .f32) (eb2 : FVec Ideal S32 .f32)
    (dw0 : FVec Ideal S32x512 .f32) (db0 : FVec Ideal S512 .f32) (dw1 : FVec Ideal S512x256 .f32) (db1 : FVec Ideal S256 .f32)
    (dw2 : FVec Ideal S256x768 .f32) (db2 : FVec Ideal S768 .f32) (cb0 cb1 cb2 : FVec Ideal S8192x32 .f32) (j : S_.Idx) :
    refF x ew0 eb0 ew1 eb1 ew2 eb2 dw0 db0 dw1 db1 dw2 db2 cb0 cb1 cb2 j =
      Ideal.div (∑ n, lossR x ew0 eb0 ew1 eb1 ew2 eb2 dw0 db0 dw1 db1 dw2 db2 cb0 cb1 cb2 n)
        (Ideal.ofBits .f32 0x46800000#32) := by
  refine (mean_apply _ j).trans ?_
  refine congrArg (fun f : Fin 16384 → EReal => Ideal.div (∑ n, f n) (Ideal.ofBits .f32 0x46800000#32)) (funext fun n => ?_)
  refine (lossRows_stack x dw0 db0 dw1 db1 dw2 db2 cb0 cb1 cb2 _ _ _ _ _ _ n (emb_apply _ cb0 n) (sub_apply _ _ n)
    (emb_apply _ cb1 n) (sub_apply _ _ n) (emb_apply _ cb2 n)).trans ?_
  unfold lossR
  rw [enc_apply]

end Cert.RefValue

end
-- ==== Proof.Link.lean ====
module

public import proofs.«01_k».proof.Proof.KernelRun
public import proofs.«01_k».proof.Proof.RefRow

/-! The two programs' results are the same number, and what each program's run ends with. -/

@[expose] public section

set_option maxRecDepth 16384

noncomputable section

namespace Cert.Link

open Idealize.ShloMosaic Idealize.ShloMosaic.TcCoe Idealize.SL.Sem Cert.RowMath

/-- A row's loss is the same in the two arrangements. -/
theorem loss_eq (x : FVec Ideal Cert.KernelIdeal.S16384x768 .f32) (ew0 : FVec Ideal Cert.KernelIdeal.S768x512 .f32)
    (eb0 : FVec Ideal Cert.KernelIdeal.S512 .f32) (ew1 : FVec Ideal Cert.KernelIdeal.S512x256 .f32)
    (eb1 : FVec Ideal Cert.KernelIdeal.S256 .f32) (ew2 : FVec Ideal Cert.KernelIdeal.S256x32 .f32)
    (eb2 : FVec Ideal Cert.KernelIdeal.S32 .f32) (dw0 : FVec Ideal Cert.KernelIdeal.S32x512 .f32)
    (db0 : FVec Ideal Cert.KernelIdeal.S512 .f32) (dw1 : FVec Ideal Cert.KernelIdeal.S512x256 .f32)
    (db1 : FVec Ideal Cert.KernelIdeal.S256 .f32) (dw2 : FVec Ideal Cert.KernelIdeal.S256x768 .f32)
    (db2 : FVec Ideal Cert.KernelIdeal.S768 .f32) (cb0 cb1 cb2 : FVec Ideal Cert.KernelIdeal.S8192x32 .f32) (n : Fin 16384) :
    Cert.RefValue.lossR x ew0 eb0 ew1 eb1 ew2 eb2 dw0 db0 dw1 db1 dw2 db2 cb0 cb1 cb2 n =
      Cert.KernelValue.lossK x ew0 eb0 ew1 eb1 ew2 eb2 dw0 db0 dw1 db1 dw2 db2 cb0 cb1 cb2 n :=
  (rowLossK_eq_rowLossR _ _ _ _).symm

section Kernel

open Cert.KernelIdeal Cert.KernelIdeal.Gen Cert.KernelValue

/-- Every weakly fair run of the idealized kernel ends with the mean of the row losses in the result buffer. -/
theorem kernel_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = lossMean m c :=
  (θ_run defs _ _).mono (fun _ h c => ((h c).2 main_v13 (Pipeline.mem_restRefs_of main_v13 (by decide) (by decide))).trans
    (result_value m c)) (run_main m ρ)

end Kernel

section Reference

open Cert.ReferenceIdeal Cert.RefValue

/-- Every weakly fair run of the idealized reference ends with the arguments as they were. -/
theorem reference_args (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c).2 main_arg0 (by decide),
    (h c).2 main_arg1 (by decide),
    (h c).2 main_arg2 (by decide),
    (h c).2 main_arg3 (by decide),
    (h c).2 main_arg4 (by decide),
    (h c).2 main_arg5 (by decide),
    (h c).2 main_arg6 (by decide),
    (h c).2 main_arg7 (by decide),
    (h c).2 main_arg8 (by decide),
    (h c).2 main_arg9 (by decide),
    (h c).2 main_arg10 (by decide),
    (h c).2 main_arg11 (by decide),
    (h c).2 main_arg12 (by decide),
    (h c).2 main_arg13 (by decide),
    (h c).2 main_arg14 (by decide),
    (h c).2 main_arg15 (by decide),
    (h c).2 main_arg16 (by decide)⟩) (run m ρ)

end Reference

end Cert.Link

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Link
public import Idealize.ShloMosaic.Adequacy
public import Idealize.ShloMosaic.Init

@[expose] public section

noncomputable section

namespace Cert.Proof

open Idealize.ShloMosaic Idealize.ShloMosaic.TcCoe Idealize.SL.Sem

/-- The idealized reference ends with its arguments unchanged and, having no semaphore, every counter at zero. -/
theorem frame_reference : Cert.quiescent_ReferenceIdeal := fun m ρ _ =>
  (θ_run Cert.ReferenceIdeal.defs _ _).mono (fun r h => ⟨h, sem_eq_zero_of_no_sems (by decide) r.2⟩)
    (Cert.Link.reference_args m ρ)

/-- From equal arguments the idealized kernel and the idealized reference end with the same loss. -/
theorem same_loss : Cert.algebraic_KernelIdeal_ReferenceIdeal := by
  intro m ρ m' ρ' _ hag
  refine ⟨fun c => Cert.KernelValue.lossMean m c,
    (θ_run Cert.KernelIdeal.defs _ _).mono (fun _ h c => ⟨h.1 c, h.2 c⟩)
      (θ_run_and (Cert.Link.kernel_result m ρ) (Cert.KernelIdeal.Gen.unchanged m ρ)),
    (θ_run Cert.ReferenceIdeal.defs _ _).mono (fun _ h c => ⟨(h.1 c).1.trans ?_, h.2 c⟩)
      (θ_run_and (Cert.RefValue.run m' ρ') (Cert.Link.reference_args m' ρ'))⟩
  obtain ⟨a0, -, a2, a3, a4, a5, a6, a7, a8, a9, a10, a11, a12, a13, a14, a15, a16⟩ := hag c
  rw [a0, a2, a3, a4, a5, a6, a7, a8, a9, a10, a11, a12, a13, a14, a15, a16]
  funext j
  exact (Cert.RefValue.ref_apply _ _ _ _ _ _ _ _ _ _ _ _ _ _ _ _ j).trans
    (congrArg (fun f : Fin 16384 → EReal => Ideal.div (∑ n, f n) (Ideal.ofBits .f32 0x46800000#32))
      (funext fun n => Cert.Link.loss_eq _ _ _ _ _ _ _ _ _ _ _ _ _ _ _ _ n))

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_loss⟩

end Cert.Proof

end
